-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x512x128 : Shape := ⟨3, ![128, 512, 128]⟩
abbrev S8388608 : Shape := ⟨1, ![8388608]⟩
abbrev S4194304 : Shape := ⟨1, ![4194304]⟩
abbrev S32768 : Shape := ⟨1, ![32768]⟩
abbrev S16384 : Shape := ⟨1, ![16384]⟩
abbrev S_ : Shape := ⟨0, ![]⟩
abbrev S16 : Shape := ⟨1, ![16]⟩
abbrev S128x512x64 : Shape := ⟨3, ![128, 512, 64]⟩

abbrev nBuf : Table → Nat
  | .hbm => 4
  | .local .scVector .vmem => 4
  | _ => 0

abbrev bufTy : (tb : Table) → Fin (nBuf tb) → BufTy
  | .hbm, ⟨0, _⟩ => ⟨S128x512x128, .f32⟩
  | .hbm, ⟨1, _⟩ => ⟨S8388608, .f32⟩
  | .hbm, ⟨2, _⟩ => ⟨S4194304, .f32⟩
  | .hbm, ⟨3, _⟩ => ⟨S128x512x64, .f32⟩
  | .local .scVector .vmem, ⟨0, _⟩ => ⟨S32768, .f32⟩
  | .local .scVector .vmem, ⟨1, _⟩ => ⟨S32768, .f32⟩
  | .local .scVector .vmem, ⟨2, _⟩ => ⟨S16384, .f32⟩
  | .local .scVector .vmem, ⟨3, _⟩ => ⟨S16384, .f32⟩
  | _, _ => ⟨S128x512x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v3 : BitVec 32 := Scalar.addi v2 c0_i32
  let c128_i32 : BitVec 32 := 128#32
  let v4 : BitVec 32 := Scalar.muli v3 c128_i32
  ![v4.toNat]
@[reducible] def k0_t1_loop : Scf.Loop 32 :=
  let c0_i32_2 : BitVec 32 := 0#32
  let c16_i32 : BitVec 32 := 16#32
  let v13 : BitVec 32 := Scalar.addi c0_i32_2 c16_i32
  let c1_i32 : BitVec 32 := 1#32
  ⟨c0_i32_2, v13, c1_i32⟩
def k0_off2 (k0_t1 : Fin k0_t1_loop.trips) (c0_i32_62 : BitVec 32) (c0_i32_63 : BitVec 32) : Fin 1 → Nat :=
  let c0_i32_2 : BitVec 32 := 0#32
  let c1_i32 : BitVec 32 := 1#32
  let arg12 : BitVec 32 := Scf.iv c0_i32_2 c1_i32 k0_t1
  let c2048_i32_60 : BitVec 32 := 2048#32
  let v107 : BitVec 32 := Scalar.muli arg12 c2048_i32_60
  let v109 : BitVec 32 := Scalar.addi v107 c0_i32_62
  let v110 : BitVec 32 := Scalar.addi v109 c0_i32_63
  let v111 : Index := Scalar.indexCast v110
  ![v111.toNat]
def k0_off3 (k0_t1 : Fin k0_t1_loop.trips) (c0_i32_64 : BitVec 32) (c0_i32_66 : BitVec 32) : Fin 1 → Nat :=
  let c0_i32_2 : BitVec 32 := 0#32
  let c1_i32 : BitVec 32 := 1#32
  let arg12 : BitVec 32 := Scf.iv c0_i32_2 c1_i32 k0_t1
  let c2048_i32_60 : BitVec 32 := 2048#32
  let v107 : BitVec 32 := Scalar.muli arg12 c2048_i32_60
  let v114 : BitVec 32 := Scalar.addi v107 c0_i32_64
  let c64_i32_65 : BitVec 32 := 64#32
  let v115 : BitVec 32 := Scalar.addi v114 c64_i32_65
  let v116 : BitVec 32 := Scalar.addi v115 c0_i32_66
  let v117 : Index := Scalar.indexCast v116
  ![v117.toNat]
def k0_off4 (k0_t1 : Fin k0_t1_loop.trips) (c0_i32_67 : BitVec 32) (c0_i32_68 : BitVec 32) : Fin 1 → Nat :=
  let c0_i32_2 : BitVec 32 := 0#32
  let c1_i32 : BitVec 32 := 1#32
  let arg12 : BitVec 32 := Scf.iv c0_i32_2 c1_i32 k0_t1
  let c1024_i32_61 : BitVec 32 := 1024#32
  let v108 : BitVec 32 := Scalar.muli arg12 c1024_i32_61
  let v121 : BitVec 32 := Scalar.addi v108 c0_i32_67
  let v122 : BitVec 32 := Scalar.addi v121 c0_i32_68
  let v123 : Index := Scalar.indexCast v122
  ![v123.toNat]
def k0_off5 (i : grid0.Coords) (c0_i32_4 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v14 : BitVec 32 := Scalar.addi v2 c0_i32_4
  let c64_i32 : BitVec 32 := 64#32
  let v15 : BitVec 32 := Scalar.muli v14 c64_i32
  ![v15.toNat]
@[reducible] def k0_t2_loop : Scf.Loop 32 :=
  let c0_i32_7 : BitVec 32 := 0#32
  let c16_i32_8 : BitVec 32 := 16#32
  let v24 : BitVec 32 := Scalar.addi c0_i32_7 c16_i32_8
  let c1_i32_9 : BitVec 32 := 1#32
  ⟨c0_i32_7, v24, c1_i32_9⟩
def k0_off6 (k0_t2 : Fin k0_t2_loop.trips) (c0_i32_62 : BitVec 32) (c0_i32_63 : BitVec 32) : Fin 1 → Nat :=
  let c0_i32_7 : BitVec 32 := 0#32
  let c1_i32_9 : BitVec 32 := 1#32
  let arg12 : BitVec 32 := Scf.iv c0_i32_7 c1_i32_9 k0_t2
  let c2048_i32_60 : BitVec 32 := 2048#32
  let v107 : BitVec 32 := Scalar.muli arg12 c2048_i32_60
  let v109 : BitVec 32 := Scalar.addi v107 c0_i32_62
  let v110 : BitVec 32 := Scalar.addi v109 c0_i32_63
  let v111 : Index := Scalar.indexCast v110
  ![v111.toNat]
def k0_off7 (k0_t2 : Fin k0_t2_loop.trips) (c0_i32_64 : BitVec 32) (c0_i32_66 : BitVec 32) : Fin 1 → Nat :=
  let c0_i32_7 : BitVec 32 := 0#32
  let c1_i32_9 : BitVec 32 := 1#32
  let arg12 : BitVec 32 := Scf.iv c0_i32_7 c1_i32_9 k0_t2
  let c2048_i32_60 : BitVec 32 := 2048#32
  let v107 : BitVec 32 := Scalar.muli arg12 c2048_i32_60
  let v114 : BitVec 32 := Scalar.addi v107 c0_i32_64
  let c64_i32_65 : BitVec 32 := 64#32
  let v115 : BitVec 32 := Scalar.addi v114 c64_i32_65
  let v116 : BitVec 32 := Scalar.addi v115 c0_i32_66
  let v117 : Index := Scalar.indexCast v116
  ![v117.toNat]
def k0_off8 (k0_t2 : Fin k0_t2_loop.trips) (c0_i32_67 : BitVec 32) (c0_i32_68 : BitVec 32) : Fin 1 → Nat :=
  let c0_i32_7 : BitVec 32 := 0#32
  let c1_i32_9 : BitVec 32 := 1#32
  let arg12 : BitVec 32 := Scf.iv c0_i32_7 c1_i32_9 k0_t2
  let c1024_i32_61 : BitVec 32 := 1024#32
  let v108 : BitVec 32 := Scalar.muli arg12 c1024_i32_61
  let v121 : BitVec 32 := Scalar.addi v108 c0_i32_67
  let v122 : BitVec 32 := Scalar.addi v121 c0_i32_68
  let v123 : Index := Scalar.indexCast v122
  ![v123.toNat]
@[reducible] def k0_t3_loop : Scf.Loop 32 :=
  let c0_i32_15 : BitVec 32 := 0#32
  let c16_i32_16 : BitVec 32 := 16#32
  let v37 : BitVec 32 := Scalar.addi c0_i32_15 c16_i32_16
  let c1_i32_17 : BitVec 32 := 1#32
  ⟨c0_i32_15, v37, c1_i32_17⟩
def k0_off9 (k0_t3 : Fin k0_t3_loop.trips) (c0_i32_62 : BitVec 32) (c0_i32_63 : BitVec 32) : Fin 1 → Nat :=
  let c0_i32_15 : BitVec 32 := 0#32
  let c1_i32_17 : BitVec 32 := 1#32
  let arg12 : BitVec 32 := Scf.iv c0_i32_15 c1_i32_17 k0_t3
  let c2048_i32_60 : BitVec 32 := 2048#32
  let v107 : BitVec 32 := Scalar.muli arg12 c2048_i32_60
  let v109 : BitVec 32 := Scalar.addi v107 c0_i32_62
  let v110 : BitVec 32 := Scalar.addi v109 c0_i32_63
  let v111 : Index := Scalar.indexCast v110
  ![v111.toNat]
def k0_off10 (k0_t3 : Fin k0_t3_loop.trips) (c0_i32_64 : BitVec 32) (c0_i32_66 : BitVec 32) : Fin 1 → Nat :=
  let c0_i32_15 : BitVec 32 := 0#32
  let c1_i32_17 : BitVec 32 := 1#32
  let arg12 : BitVec 32 := Scf.iv c0_i32_15 c1_i32_17 k0_t3
  let c2048_i32_60 : BitVec 32 := 2048#32
  let v107 : BitVec 32 := Scalar.muli arg12 c2048_i32_60
  let v114 : BitVec 32 := Scalar.addi v107 c0_i32_64
  let c64_i32_65 : BitVec 32 := 64#32
  let v115 : BitVec 32 := Scalar.addi v114 c64_i32_65
  let v116 : BitVec 32 := Scalar.addi v115 c0_i32_66
  let v117 : Index := Scalar.indexCast v116
  ![v117.toNat]
def k0_off11 (k0_t3 : Fin k0_t3_loop.trips) (c0_i32_67 : BitVec 32) (c0_i32_68 : BitVec 32) : Fin 1 → Nat :=
  let c0_i32_15 : BitVec 32 := 0#32
  let c1_i32_17 : BitVec 32 := 1#32
  let arg12 : BitVec 32 := Scf.iv c0_i32_15 c1_i32_17 k0_t3
  let c1024_i32_61 : BitVec 32 := 1024#32
  let v108 : BitVec 32 := Scalar.muli arg12 c1024_i32_61
  let v121 : BitVec 32 := Scalar.addi v108 c0_i32_67
  let v122 : BitVec 32 := Scalar.addi v121 c0_i32_68
  let v123 : Index := Scalar.indexCast v122
  ![v123.toNat]
@[reducible] def k0_t4_loop : Scf.Loop 32 :=
  let c0_i32_23 : BitVec 32 := 0#32
  let c16_i32_24 : BitVec 32 := 16#32
  let v50 : BitVec 32 := Scalar.addi c0_i32_23 c16_i32_24
  let c1_i32_25 : BitVec 32 := 1#32
  ⟨c0_i32_23, v50, c1_i32_25⟩
def k0_off12 (k0_t4 : Fin k0_t4_loop.trips) (c0_i32_62 : BitVec 32) (c0_i32_63 : BitVec 32) : Fin 1 → Nat :=
  let c0_i32_23 : BitVec 32 := 0#32
  let c1_i32_25 : BitVec 32 := 1#32
  let arg12 : BitVec 32 := Scf.iv c0_i32_23 c1_i32_25 k0_t4
  let c2048_i32_60 : BitVec 32 := 2048#32
  let v107 : BitVec 32 := Scalar.muli arg12 c2048_i32_60
  let v109 : BitVec 32 := Scalar.addi v107 c0_i32_62
  let v110 : BitVec 32 := Scalar.addi v109 c0_i32_63
  let v111 : Index := Scalar.indexCast v110
  ![v111.toNat]
def k0_off13 (k0_t4 : Fin k0_t4_loop.trips) (c0_i32_64 : BitVec 32) (c0_i32_66 : BitVec 32) : Fin 1 → Nat :=
  let c0_i32_23 : BitVec 32 := 0#32
  let c1_i32_25 : BitVec 32 := 1#32
  let arg12 : BitVec 32 := Scf.iv c0_i32_23 c1_i32_25 k0_t4
  let c2048_i32_60 : BitVec 32 := 2048#32
  let v107 : BitVec 32 := Scalar.muli arg12 c2048_i32_60
  let v114 : BitVec 32 := Scalar.addi v107 c0_i32_64
  let c64_i32_65 : BitVec 32 := 64#32
  let v115 : BitVec 32 := Scalar.addi v114 c64_i32_65
  let v116 : BitVec 32 := Scalar.addi v115 c0_i32_66
  let v117 : Index := Scalar.indexCast v116
  ![v117.toNat]
def k0_off14 (k0_t4 : Fin k0_t4_loop.trips) (c0_i32_67 : BitVec 32) (c0_i32_68 : BitVec 32) : Fin 1 → Nat :=
  let c0_i32_23 : BitVec 32 := 0#32
  let c1_i32_25 : BitVec 32 := 1#32
  let arg12 : BitVec 32 := Scf.iv c0_i32_23 c1_i32_25 k0_t4
  let c1024_i32_61 : BitVec 32 := 1024#32
  let v108 : BitVec 32 := Scalar.muli arg12 c1024_i32_61
  let v121 : BitVec 32 := Scalar.addi v108 c0_i32_67
  let v122 : BitVec 32 := Scalar.addi v121 c0_i32_68
  let v123 : Index := Scalar.indexCast v122
  ![v123.toNat]
@[reducible] def k0_t5_loop : Scf.Loop 32 :=
  let c0_i32_31 : BitVec 32 := 0#32
  let c16_i32_32 : BitVec 32 := 16#32
  let v63 : BitVec 32 := Scalar.addi c0_i32_31 c16_i32_32
  let c1_i32_33 : BitVec 32 := 1#32
  ⟨c0_i32_31, v63, c1_i32_33⟩
def k0_off15 (k0_t5 : Fin k0_t5_loop.trips) (c0_i32_62 : BitVec 32) (c0_i32_63 : BitVec 32) : Fin 1 → Nat :=
  let c0_i32_31 : BitVec 32 := 0#32
  let c1_i32_33 : BitVec 32 := 1#32
  let arg12 : BitVec 32 := Scf.iv c0_i32_31 c1_i32_33 k0_t5
  let c2048_i32_60 : BitVec 32 := 2048#32
  let v107 : BitVec 32 := Scalar.muli arg12 c2048_i32_60
  let v109 : BitVec 32 := Scalar.addi v107 c0_i32_62
  let v110 : BitVec 32 := Scalar.addi v109 c0_i32_63
  let v111 : Index := Scalar.indexCast v110
  ![v111.toNat]
def k0_off16 (k0_t5 : Fin k0_t5_loop.trips) (c0_i32_64 : BitVec 32) (c0_i32_66 : BitVec 32) : Fin 1 → Nat :=
  let c0_i32_31 : BitVec 32 := 0#32
  let c1_i32_33 : BitVec 32 := 1#32
  let arg12 : BitVec 32 := Scf.iv c0_i32_31 c1_i32_33 k0_t5
  let c2048_i32_60 : BitVec 32 := 2048#32
  let v107 : BitVec 32 := Scalar.muli arg12 c2048_i32_60
  let v114 : BitVec 32 := Scalar.addi v107 c0_i32_64
  let c64_i32_65 : BitVec 32 := 64#32
  let v115 : BitVec 32 := Scalar.addi v114 c64_i32_65
  let v116 : BitVec 32 := Scalar.addi v115 c0_i32_66
  let v117 : Index := Scalar.indexCast v116
  ![v117.toNat]
def k0_off17 (k0_t5 : Fin k0_t5_loop.trips) (c0_i32_67 : BitVec 32) (c0_i32_68 : BitVec 32) : Fin 1 → Nat :=
  let c0_i32_31 : BitVec 32 := 0#32
  let c1_i32_33 : BitVec 32 := 1#32
  let arg12 : BitVec 32 := Scf.iv c0_i32_31 c1_i32_33 k0_t5
  let c1024_i32_61 : BitVec 32 := 1024#32
  let v108 : BitVec 32 := Scalar.muli arg12 c1024_i32_61
  let v121 : BitVec 32 := Scalar.addi v108 c0_i32_67
  let v122 : BitVec 32 := Scalar.addi v121 c0_i32_68
  let v123 : Index := Scalar.indexCast v122
  ![v123.toNat]
@[reducible] def k0_t6_loop : Scf.Loop 32 :=
  let c0_i32_39 : BitVec 32 := 0#32
  let c16_i32_40 : BitVec 32 := 16#32
  let v76 : BitVec 32 := Scalar.addi c0_i32_39 c16_i32_40
  let c1_i32_41 : BitVec 32 := 1#32
  ⟨c0_i32_39, v76, c1_i32_41⟩
def k0_off18 (k0_t6 : Fin k0_t6_loop.trips) (c0_i32_62 : BitVec 32) (c0_i32_63 : BitVec 32) : Fin 1 → Nat :=
  let c0_i32_39 : BitVec 32 := 0#32
  let c1_i32_41 : BitVec 32 := 1#32
  let arg12 : BitVec 32 := Scf.iv c0_i32_39 c1_i32_41 k0_t6
  let c2048_i32_60 : BitVec 32 := 2048#32
  let v107 : BitVec 32 := Scalar.muli arg12 c2048_i32_60
  let v109 : BitVec 32 := Scalar.addi v107 c0_i32_62
  let v110 : BitVec 32 := Scalar.addi v109 c0_i32_63
  let v111 : Index := Scalar.indexCast v110
  ![v111.toNat]
def k0_off19 (k0_t6 : Fin k0_t6_loop.trips) (c0_i32_64 : BitVec 32) (c0_i32_66 : BitVec 32) : Fin 1 → Nat :=
  let c0_i32_39 : BitVec 32 := 0#32
  let c1_i32_41 : BitVec 32 := 1#32
  let arg12 : BitVec 32 := Scf.iv c0_i32_39 c1_i32_41 k0_t6
  let c2048_i32_60 : BitVec 32 := 2048#32
  let v107 : BitVec 32 := Scalar.muli arg12 c2048_i32_60
  let v114 : BitVec 32 := Scalar.addi v107 c0_i32_64
  let c64_i32_65 : BitVec 32 := 64#32
  let v115 : BitVec 32 := Scalar.addi v114 c64_i32_65
  let v116 : BitVec 32 := Scalar.addi v115 c0_i32_66
  let v117 : Index := Scalar.indexCast v116
  ![v117.toNat]
def k0_off20 (k0_t6 : Fin k0_t6_loop.trips) (c0_i32_67 : BitVec 32) (c0_i32_68 : BitVec 32) : Fin 1 → Nat :=
  let c0_i32_39 : BitVec 32 := 0#32
  let c1_i32_41 : BitVec 32 := 1#32
  let arg12 : BitVec 32 := Scf.iv c0_i32_39 c1_i32_41 k0_t6
  let c1024_i32_61 : BitVec 32 := 1024#32
  let v108 : BitVec 32 := Scalar.muli arg12 c1024_i32_61
  let v121 : BitVec 32 := Scalar.addi v108 c0_i32_67
  let v122 : BitVec 32 := Scalar.addi v121 c0_i32_68
  let v123 : Index := Scalar.indexCast v122
  ![v123.toNat]
@[reducible] def k0_t7_loop : Scf.Loop 32 :=
  let c0_i32_47 : BitVec 32 := 0#32
  let c16_i32_48 : BitVec 32 := 16#32
  let v89 : BitVec 32 := Scalar.addi c0_i32_47 c16_i32_48
  let c1_i32_49 : BitVec 32 := 1#32
  ⟨c0_i32_47, v89, c1_i32_49⟩
def k0_off21 (k0_t7 : Fin k0_t7_loop.trips) (c0_i32_62 : BitVec 32) (c0_i32_63 : BitVec 32) : Fin 1 → Nat :=
  let c0_i32_47 : BitVec 32 := 0#32
  let c1_i32_49 : BitVec 32 := 1#32
  let arg12 : BitVec 32 := Scf.iv c0_i32_47 c1_i32_49 k0_t7
  let c2048_i32_60 : BitVec 32 := 2048#32
  let v107 : BitVec 32 := Scalar.muli arg12 c2048_i32_60
  let v109 : BitVec 32 := Scalar.addi v107 c0_i32_62
  let v110 : BitVec 32 := Scalar.addi v109 c0_i32_63
  let v111 : Index := Scalar.indexCast v110
  ![v111.toNat]
def k0_off22 (k0_t7 : Fin k0_t7_loop.trips) (c0_i32_64 : BitVec 32) (c0_i32_66 : BitVec 32) : Fin 1 → Nat :=
  let c0_i32_47 : BitVec 32 := 0#32
  let c1_i32_49 : BitVec 32 := 1#32
  let arg12 : BitVec 32 := Scf.iv c0_i32_47 c1_i32_49 k0_t7
  let c2048_i32_60 : BitVec 32 := 2048#32
  let v107 : BitVec 32 := Scalar.muli arg12 c2048_i32_60
  let v114 : BitVec 32 := Scalar.addi v107 c0_i32_64
  let c64_i32_65 : BitVec 32 := 64#32
  let v115 : BitVec 32 := Scalar.addi v114 c64_i32_65
  let v116 : BitVec 32 := Scalar.addi v115 c0_i32_66
  let v117 : Index := Scalar.indexCast v116
  ![v117.toNat]
def k0_off23 (k0_t7 : Fin k0_t7_loop.trips) (c0_i32_67 : BitVec 32) (c0_i32_68 : BitVec 32) : Fin 1 → Nat :=
  let c0_i32_47 : BitVec 32 := 0#32
  let c1_i32_49 : BitVec 32 := 1#32
  let arg12 : BitVec 32 := Scf.iv c0_i32_47 c1_i32_49 k0_t7
  let c1024_i32_61 : BitVec 32 := 1024#32
  let v108 : BitVec 32 := Scalar.muli arg12 c1024_i32_61
  let v121 : BitVec 32 := Scalar.addi v108 c0_i32_67
  let v122 : BitVec 32 := Scalar.addi v121 c0_i32_68
  let v123 : Index := Scalar.indexCast v122
  ![v123.toNat]
@[reducible] def k0_t8_loop : Scf.Loop 32 :=
  let c0_i32_54 : BitVec 32 := 0#32
  let c16_i32_55 : BitVec 32 := 16#32
  let v98 : BitVec 32 := Scalar.addi c0_i32_54 c16_i32_55
  let c1_i32_56 : BitVec 32 := 1#32
  ⟨c0_i32_54, v98, c1_i32_56⟩
def k0_off24 (k0_t8 : Fin k0_t8_loop.trips) (c0_i32_62 : BitVec 32) (c0_i32_63 : BitVec 32) : Fin 1 → Nat :=
  let c0_i32_54 : BitVec 32 := 0#32
  let c1_i32_56 : BitVec 32 := 1#32
  let arg12 : BitVec 32 := Scf.iv c0_i32_54 c1_i32_56 k0_t8
  let c2048_i32_60 : BitVec 32 := 2048#32
  let v107 : BitVec 32 := Scalar.muli arg12 c2048_i32_60
  let v109 : BitVec 32 := Scalar.addi v107 c0_i32_62
  let v110 : BitVec 32 := Scalar.addi v109 c0_i32_63
  let v111 : Index := Scalar.indexCast v110
  ![v111.toNat]
def k0_off25 (k0_t8 : Fin k0_t8_loop.trips) (c0_i32_64 : BitVec 32) (c0_i32_66 : BitVec 32) : Fin 1 → Nat :=
  let c0_i32_54 : BitVec 32 := 0#32
  let c1_i32_56 : BitVec 32 := 1#32
  let arg12 : BitVec 32 := Scf.iv c0_i32_54 c1_i32_56 k0_t8
  let c2048_i32_60 : BitVec 32 := 2048#32
  let v107 : BitVec 32 := Scalar.muli arg12 c2048_i32_60
  let v114 : BitVec 32 := Scalar.addi v107 c0_i32_64
  let c64_i32_65 : BitVec 32 := 64#32
  let v115 : BitVec 32 := Scalar.addi v114 c64_i32_65
  let v116 : BitVec 32 := Scalar.addi v115 c0_i32_66
  let v117 : Index := Scalar.indexCast v116
  ![v117.toNat]
def k0_off26 (k0_t8 : Fin k0_t8_loop.trips) (c0_i32_67 : BitVec 32) (c0_i32_68 : BitVec 32) : Fin 1 → Nat :=
  let c0_i32_54 : BitVec 32 := 0#32
  let c1_i32_56 : BitVec 32 := 1#32
  let arg12 : BitVec 32 := Scf.iv c0_i32_54 c1_i32_56 k0_t8
  let c1024_i32_61 : BitVec 32 := 1024#32
  let v108 : BitVec 32 := Scalar.muli arg12 c1024_i32_61
  let v121 : BitVec 32 := Scalar.addi v108 c0_i32_67
  let v122 : BitVec 32 := Scalar.addi v121 c0_i32_68
  let v123 : Index := Scalar.indexCast v122
  ![v123.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x512x128 : Shape := ⟨3, ![128, 512, 128]⟩
abbrev S64 : Shape := ⟨1, ![64]⟩
abbrev S128 : Shape := ⟨1, ![128]⟩
abbrev S64x1 : Shape := ⟨2, ![64, 1]⟩
abbrev S1x128 : Shape := ⟨2, ![1, 128]⟩
abbrev S64x128 : Shape := ⟨2, ![64, 128]⟩
abbrev S1x1x64x128 : Shape := ⟨4, ![1, 1, 64, 128]⟩
abbrev S128x512x1x128 : Shape := ⟨4, ![128, 512, 1, 128]⟩
abbrev S_ : Shape := ⟨0, ![]⟩
abbrev S128x512x64x128 : Shape := ⟨4, ![128, 512, 64, 128]⟩
abbrev S128x512x64 : Shape := ⟨3, ![128, 512, 64]⟩

abbrev nBuf : Space → Nat
  | .hbm => 20
  | .vmem => 0
  | .smem => 0
  | _ => 0

abbrev bufTy : (tb : Table) → Fin (tcTables nBuf tb) → BufTy
  | .hbm, ⟨0, _⟩ => ⟨S128x512x128, .f32⟩
  | .hbm, ⟨1, _⟩ => ⟨S64, .i32⟩
  | .hbm, ⟨2, _⟩ => ⟨S64, .i32⟩
  | .hbm, ⟨3, _⟩ => ⟨S128, .i32⟩
  | .hbm, ⟨4, _⟩ => ⟨S64, .i32⟩
  | .hbm, ⟨5, _⟩ => ⟨S64x1, .i32⟩
  | .hbm, ⟨6, _⟩ => ⟨S1x128, .i32⟩
  | .hbm, ⟨7, _⟩ => ⟨S64x128, .i32⟩
  | .hbm, ⟨8, _⟩ => ⟨S64x128, .i32⟩
  | .hbm, ⟨9, _⟩ => ⟨S64x128, .i1⟩
  | .hbm, ⟨10, _⟩ => ⟨S1x1x64x128, .i1⟩
  | .hbm, ⟨11, _⟩ => ⟨S128x512x1x128, .f32⟩
  | .hbm, ⟨12, _⟩ => ⟨S_, .f32⟩
  | .hbm, ⟨13, _⟩ => ⟨S_, .f32⟩
  | .hbm, ⟨14, _⟩ => ⟨S128x512x64x128, .i1⟩
  | .hbm, ⟨15, _⟩ => ⟨S128x512x64x128, .f32⟩
  | .hbm, ⟨16, _⟩ => ⟨S128x512x64x128, .f32⟩
  | .hbm, ⟨17, _⟩ => ⟨S128x512x64x128, .f32⟩
  | .hbm, ⟨18, _⟩ => ⟨S_, .f32⟩
  | .hbm, ⟨19, _⟩ => ⟨S128x512x64, .f32⟩
  | _, _ => ⟨S128x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Proof.Setup.lean ====
/-
  The kernel as the launch theorem sees it: its configuration, the ghost state its proof keeps (the handshakes' rounds beside the
  transfers' counters), the buffers it touches, and the pooled words each tile leaves.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.MaxPool

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UU : Type := UH × Counters

/-- The handshakes' rounds, the left factor; the transfers' counters are the right one. -/
abbrev EH : Emb UH (MT nD τ sig (HIx 1) (Elt F) ℕ UU ℕ) := embL

/-! ## The tile at a grid point -/

abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

/-! ## What a chunk is pooled to -/

section Pool

variable [FloatOps F]

/-- The place in a chunk's 256 rows of 128 words that pooled word `j` reads first: row `j / 64`, column `j % 64`. -/
def lo (j : S16384.Idx) : S32768.Idx := fun | 0 => ⟨128 * ((j 0).val / 64) + (j 0).val % 64, by
  have h : (j 0).val < 16384 := (j 0).isLt
  show _ < 32768; omega⟩
/-- And the one it reads second, sixty-four columns on. -/
def hi (j : S16384.Idx) : S32768.Idx := fun | 0 => ⟨128 * ((j 0).val / 64) + 64 + (j 0).val % 64, by
  have h : (j 0).val < 16384 := (j 0).isLt
  show _ < 32768; omega⟩

/-- A chunk pooled: each row's 128 words to the 64 maxima of its columns `c` and `c + 64`. -/
def pooled (w : Vec F S32768 .f32) : Vec F S16384 .f32 := fun j => FloatOps.maximumf (w (lo j)) (w (hi j))

/-- The same of the whole array, a word of the output at a time. -/
def loAll (j : S4194304.Idx) : S8388608.Idx := fun | 0 => ⟨128 * ((j 0).val / 64) + (j 0).val % 64, by
  have h : (j 0).val < 4194304 := (j 0).isLt
  show _ < 8388608; omega⟩
def hiAll (j : S4194304.Idx) : S8388608.Idx := fun | 0 => ⟨128 * ((j 0).val / 64) + 64 + (j 0).val % 64, by
  have h : (j 0).val < 4194304 := (j 0).isLt
  show _ < 8388608; omega⟩

/-- The whole array pooled. -/
def poolAll (w : Vec F S8388608 .f32) : Vec F S4194304 .f32 := fun j => FloatOps.maximumf (w (loAll j)) (w (hiAll j))

end Pool

end Cert.Proof.MaxPool

end
-- ==== Proof.Trip.lean ====
/-
  One trip of the kernel's pooling loop. The eight loops' trips are one program (`stepsProg`): sixty-four steps, each two loads of
  sixteen words, their lanewise maximum, and a store. What they leave is stated over any staging buffers.
-/
module

public import proofs.«01_k».proof.Proof.Setup

@[expose] public section

noncomputable section

namespace Cert.Proof.MaxPool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The trips of one chunk's loop. -/
abbrev Trips : Nat := k0_t1_loop.trips

/-- Sixteen words of the pooled row: the lanewise maximum of the two blocks read. -/
def pay (a b : Vec F S16 .f32) : FVec F S16 .f32 :=
  shapeCast S16 (maximumf (shapeCast S16 a shapeCasts_S16_S16) (shapeCast S16 b shapeCasts_S16_S16) : FVec F S16 .f32) shapeCasts_S16_S16

/-- One step of a trip: row `p.1` of the trip's sixteen, lane group `p.2` of its four. -/
def stepProg (i : grid0.Coords) (x : Memref sig .scVector .vmem S32768 .f32) (o : Memref sig .scVector .vmem S16384 .f32)
    (t : Fin Trips) (p : Fin 16 × Fin 4) :
    Prog (TpuEff nD τ sig (Elt F) Λ₀ (.scVector ((i 0).castLE hcore0) ((i 1).castLE hsub0))) Unit := do
  let a : Vec F S16 .f32 ← Prog.lift (.load x (Rect.unit (s := S32768) (k0_off2 t (BitVec.ofNat 32 (128 * p.1.val)) (BitVec.ofNat 32 (16 * p.2.val))) S16.size (k0_off2_inb t p.1 p.2)).toLoadRect (View.loadsAt_vmem h_S16))
  let b : Vec F S16 .f32 ← Prog.lift (.load x (Rect.unit (s := S32768) (k0_off3 t (BitVec.ofNat 32 (128 * p.1.val)) (BitVec.ofNat 32 (16 * p.2.val))) S16.size (k0_off3_inb t p.1 p.2)).toLoadRect (View.loadsAt_vmem h_S16))
  let _ : Vec F S16 .f32 ← Prog.lift (.load o (Rect.unit (s := S16384) (k0_off4 t (BitVec.ofNat 32 (64 * p.1.val)) (BitVec.ofNat 32 (16 * p.2.val))) S16.size (k0_off4_inb t p.1 p.2)).toLoadRect (View.loadsAt_vmem h_S16))
  Prog.lift (.store o (Rect.unit (s := S16384) (k0_off4 t (BitVec.ofNat 32 (64 * p.1.val)) (BitVec.ofNat 32 (16 * p.2.val))) S16.size (k0_off4_inb t p.1 p.2)) (pay a b) Finset.univ (View.stores_vmem_bits_univ h_S16 rfl) (.inl rfl))

/-- The steps in `l`, in order. -/
def stepsProg (i : grid0.Coords) (x : Memref sig .scVector .vmem S32768 .f32) (o : Memref sig .scVector .vmem S16384 .f32)
    (t : Fin Trips) : List (Fin 16 × Fin 4) →
    Prog (TpuEff nD τ sig (Elt F) Λ₀ (.scVector ((i 0).castLE hcore0) ((i 1).castLE hsub0))) Unit
  | [] => pure ⟨⟩
  | p :: l => stepProg i x o t p >>= fun _ => stepsProg i x o t l

/-- A trip's sixty-four steps, row by row. -/
def allSteps : List (Fin 16 × Fin 4) :=
  [(0,0),(0,1),(0,2),(0,3),(1,0),(1,1),(1,2),(1,3),(2,0),(2,1),(2,2),(2,3),(3,0),(3,1),(3,2),(3,3),
   (4,0),(4,1),(4,2),(4,3),(5,0),(5,1),(5,2),(5,3),(6,0),(6,1),(6,2),(6,3),(7,0),(7,1),(7,2),(7,3),
   (8,0),(8,1),(8,2),(8,3),(9,0),(9,1),(9,2),(9,3),(10,0),(10,1),(10,2),(10,3),(11,0),(11,1),(11,2),(11,3),
   (12,0),(12,1),(12,2),(12,3),(13,0),(13,1),(13,2),(13,3),(14,0),(14,1),(14,2),(14,3),(15,0),(15,1),(15,2),(15,3)]

/-- The steps of `l` write the trip's pooled words in order from word `n` of its 1024 to the last. -/
def InOrder : Nat → List (Fin 16 × Fin 4) → Prop
  | n, [] => n = 1024
  | n, p :: l => 64 * p.1.val + 16 * p.2.val = n ∧ InOrder (n + 16) l

theorem inOrder_allSteps : InOrder 0 allSteps := by
  unfold allSteps
  repeat' (first | exact rfl | refine ⟨rfl, ?_⟩)

/-! ## What a step leaves -/

section Step

variable (t : Fin Trips) (p : Fin 16 × Fin 4)

/-- The rectangles a step loads from and stores to. -/
abbrev rA : Rect S32768 := Rect.unit (s := S32768) (k0_off2 t (BitVec.ofNat 32 (128 * p.1.val)) (BitVec.ofNat 32 (16 * p.2.val))) S16.size (k0_off2_inb t p.1 p.2)
abbrev rB : Rect S32768 := Rect.unit (s := S32768) (k0_off3 t (BitVec.ofNat 32 (128 * p.1.val)) (BitVec.ofNat 32 (16 * p.2.val))) S16.size (k0_off3_inb t p.1 p.2)
abbrev rO : Rect S16384 := Rect.unit (s := S16384) (k0_off4 t (BitVec.ofNat 32 (64 * p.1.val)) (BitVec.ofNat 32 (16 * p.2.val))) S16.size (k0_off4_inb t p.1 p.2)

/-- Where a step's lane `k` reads first is where the pooled word it stores does. -/
theorem rA_emb (k : S16.Idx) : (rA t p).emb k = lo ((rO t p).emb k) := by
  funext a
  obtain rfl : a = 0 := Subsingleton.elim _ _
  refine Fin.ext ?_
  show k0_off2 t (BitVec.ofNat 32 (128 * p.1.val)) (BitVec.ofNat 32 (16 * p.2.val)) 0 + 1 * (k 0).val
    = 128 * ((k0_off4 t (BitVec.ofNat 32 (64 * p.1.val)) (BitVec.ofNat 32 (16 * p.2.val)) 0 + 1 * (k 0).val) / 64)
      + (k0_off4 t (BitVec.ofNat 32 (64 * p.1.val)) (BitVec.ofNat 32 (16 * p.2.val)) 0 + 1 * (k 0).val) % 64
  rw [k0_off2_eq, k0_off4_eq]
  have hk : (k 0).val < 16 := (k 0).isLt
  have hp := p.2.isLt
  show 2048 * t.val + 128 * p.1.val + 16 * p.2.val + 1 * (k 0).val = 128 * ((1024 * t.val + 64 * p.1.val + 16 * p.2.val + 1 * (k 0).val) / 64)
    + (1024 * t.val + 64 * p.1.val + 16 * p.2.val + 1 * (k 0).val) % 64
  omega

/-- And second. -/
theorem rB_emb (k : S16.Idx) : (rB t p).emb k = hi ((rO t p).emb k) := by
  funext a
  obtain rfl : a = 0 := Subsingleton.elim _ _
  refine Fin.ext ?_
  show k0_off3 t (BitVec.ofNat 32 (128 * p.1.val)) (BitVec.ofNat 32 (16 * p.2.val)) 0 + 1 * (k 0).val
    = 128 * ((k0_off4 t (BitVec.ofNat 32 (64 * p.1.val)) (BitVec.ofNat 32 (16 * p.2.val)) 0 + 1 * (k 0).val) / 64)
      + 64 + (k0_off4 t (BitVec.ofNat 32 (64 * p.1.val)) (BitVec.ofNat 32 (16 * p.2.val)) 0 + 1 * (k 0).val) % 64
  rw [k0_off3_eq, k0_off4_eq]
  have hk : (k 0).val < 16 := (k 0).isLt
  have hp := p.2.isLt
  show 2048 * t.val + 128 * p.1.val + 16 * p.2.val + 64 + 1 * (k 0).val = 128 * ((1024 * t.val + 64 * p.1.val + 16 * p.2.val + 1 * (k 0).val) / 64)
    + 64 + (1024 * t.val + 64 * p.1.val + 16 * p.2.val + 1 * (k 0).val) % 64
  omega

/-- The words below `n` of the pooled chunk are in place. -/
def PooledTo (w : Vec F S32768 .f32) (g : Vec F S16384 .f32) (n : Nat) : Prop := ∀ j : S16384.Idx, (j 0).val < n → g j = pooled w j

variable (x : Memref sig .scVector .vmem S32768 .f32) (o : Memref sig .scVector .vmem S16384 .f32)

/-- A step extends the words in place by its sixteen. -/
theorem pooledTo_step (f : x.view.ty.Contents (Elt F)) (g : o.view.ty.Contents (Elt F)) (n : Nat) (hn : 64 * p.1.val + 16 * p.2.val = n)
    (h : PooledTo (x.view.read (Elt F) f) (o.view.read (Elt F) g) (1024 * t.val + n)) :
    PooledTo (x.view.read (Elt F) f)
      (o.view.read (Elt F) (o.view.writes (Elt F) g [⟨rO t p, pay (x.view.readAt (Elt F) (rA t p).toLoadRect f) (x.view.readAt (Elt F) (rB t p).toLoadRect f)⟩]))
      (1024 * t.val + (n + 16)) := by
  intro j hj
  have ho : (rO t p).off 0 = 1024 * t.val + n := by
    show k0_off4 t (BitVec.ofNat 32 (64 * p.1.val)) (BitVec.ofNat 32 (16 * p.2.val)) 0 = _
    rw [k0_off4_eq, ← hn]; exact Nat.add_assoc _ _ _
  by_cases hlt : (j 0).val < 1024 * t.val + n
  · rw [View.read_writes_cons_miss_of_axis (a := 0) (o := 1024 * t.val + n) (n := 16) (ho := ho) (hst := rfl) (hn := rfl) (h := .inl hlt)]
    exact h j hlt
  · have hk : (j 0).val - (1024 * t.val + n) < 16 := by omega
    obtain ⟨k, rfl⟩ : ∃ k : S16.Idx, (rO t p).emb k = j := by
      refine ⟨fun | 0 => ⟨(j 0).val - (1024 * t.val + n), hk⟩, ?_⟩
      funext a
      obtain rfl : a = 0 := Subsingleton.elim _ _
      refine Fin.ext ?_
      show (rO t p).off 0 + 1 * ((j 0).val - (1024 * t.val + n)) = _
      rw [ho]; omega
    rw [View.read_writes_cons_hit _ _ _ _ _ _ _ rfl]
    simp only [pay, shapeCast_self, maximumf, pooled]
    rw [← rA_emb, ← rB_emb]
    rfl

end Step

/-! ## The steps' run -/

section Run

variable (d : Dev nD) (i : grid0.Coords) (x : Memref sig .scVector .vmem S32768 .f32) (o : Memref sig .scVector .vmem S16384 .f32)

theorem wp_steps (t : Fin Trips) {Sx : Finset (Idx (x.view.loc (thr d i)))} {So : Finset (Idx (o.view.loc (thr d i)))} (hx : x.view.set ⊆ Sx) (ho : o.view.set ⊆ So)
    (q : PosShare TreeShare) (f : Buf (Elt F) (x.view.loc (thr d i))) (l : List (Fin 16 × Fin 4)) :
    ∀ (n : Nat) (_ : InOrder n l) (g : Buf (Elt F) (o.view.loc (thr d i)))
      (_ : PooledTo (x.view.read (Elt F) f) (o.view.read (Elt F) g) (1024 * t.val + n)),
      (iprop((x.view.loc (thr d i) ↦[Sx]{q} f) ∗ (o.view.loc (thr d i) ↦[So]{fullShare} g)) : sProp 𝕄)
        ⊢ wp frame (wpE (defs₀ (F := F)) 𝒱₀ (thr d i) none) Set.univ (stepsProg (F := F) i x o t l)
            fun _ => iprop((x.view.loc (thr d i) ↦[Sx]{q} f) ∗ ∃ g' : Buf (Elt F) (o.view.loc (thr d i)),
              ⌜PooledTo (x.view.read (Elt F) f) (o.view.read (Elt F) g') (1024 * (t.val + 1))⌝ ∗ (o.view.loc (thr d i) ↦[So]{fullShare} g')) := by
  induction l with
  | nil =>
    intro n hn g hg
    obtain rfl : n = 1024 := hn
    simp only [stepsProg, wp_pure]
    iintro ⟨Hx, Ho⟩
    imodintro
    isplitl [Hx]; · iexact Hx
    iexists g; isplitr
    · ipureintro; rw [Nat.mul_add]; exact hg
    · iexact Ho
  | cons p l ih =>
    intro n hn g hg
    iintro ⟨Hx, Ho⟩
    unfold stepsProg stepProg
    iapply (wp_load 𝒱₀ (thr d i) none Set.univ (m := x) (S := Sx) ((View.setOn_subset_set _ _).trans hx)) $$ Hx; iintro Hx
    iapply (wp_load 𝒱₀ (thr d i) none Set.univ (m := x) (S := Sx) ((View.setOn_subset_set _ _).trans hx)) $$ Hx; iintro Hx
    iapply (wp_load 𝒱₀ (thr d i) none Set.univ (m := o) (S := So) ((View.setOn_subset_set _ _).trans ho)) $$ Ho; iintro Ho
    iapply (wp_store 𝒱₀ (thr d i) none Set.univ (m := o) (r := rO t p) (Mk := Finset.univ) (S := So) ((Memref.setOn_access_subset _ _ _).trans ho)) $$ Ho; iintro Ho
    iapply (ih (n + 16) hn.2 _ (pooledTo_step t p x o f g n hn.1 hg))
    isplitl [Hx]; · iexact Hx
    iexact Ho

/-- Before trip `k`: the rows read as they were, the pooled words of the trips before `k` in place. -/
def loopInv (Sx : Finset (Idx (x.view.loc (thr d i)))) (So : Finset (Idx (o.view.loc (thr d i)))) (q : PosShare TreeShare)
    (f : Buf (Elt F) (x.view.loc (thr d i))) (k : Nat) (_ : PUnit) : sProp 𝕄 :=
  iprop((x.view.loc (thr d i) ↦[Sx]{q} f) ∗ ∃ g : Buf (Elt F) (o.view.loc (thr d i)),
    ⌜PooledTo (x.view.read (Elt F) f) (o.view.read (Elt F) g) (1024 * k)⌝ ∗ (o.view.loc (thr d i) ↦[So]{fullShare} g))

/-- The pooling loop: from a chunk of rows and anything in the output's staging buffer, to that buffer reading the chunk pooled. -/
theorem wp_pool {Sx : Finset (Idx (x.view.loc (thr d i)))} {So : Finset (Idx (o.view.loc (thr d i)))} (hx : x.view.set ⊆ Sx) (ho : o.view.set ⊆ So)
    (q : PosShare TreeShare) (f : Buf (Elt F) (x.view.loc (thr d i))) (g : Buf (Elt F) (o.view.loc (thr d i)))
    {β : Type} {kk : PUnit → Prog (TpuEff nD τ sig (Elt F) Λ₀ (thr d i).2) β} {Q : β → sProp 𝕄} :
    iprop((x.view.loc (thr d i) ↦[Sx]{q} f) ∗ (o.view.loc (thr d i) ↦[So]{fullShare} g))
      ⊢ iprop((∀ g' : Buf (Elt F) (o.view.loc (thr d i)), ⌜o.view.read (Elt F) g' = pooled (x.view.read (Elt F) f)⌝
            -∗ (x.view.loc (thr d i) ↦[Sx]{q} f) -∗ (o.view.loc (thr d i) ↦[So]{fullShare} g')
            -∗ wp frame (wpE (defs₀ (F := F)) 𝒱₀ (thr d i) none) Set.univ (kk ⟨⟩) Q)
        -∗ wp frame (wpE (defs₀ (F := F)) 𝒱₀ (thr d i) none) Set.univ
            (Scf.Loop.for k0_t1_loop k0_t1_ok ⟨⟩ (fun t _ => stepsProg (F := F) i x o t allSteps) >>= kk) Q) := by
  have h16 : k0_t1_loop.trips = 16 := by decide
  iintro ⟨Hx, Ho⟩ HK
  iapply (Scf.wp_for_bind (M := 𝕄) frame (wpE (defs₀ (F := F)) 𝒱₀ (thr d i) none) Set.univ _ _ _ k0_t1_ok ⟨⟩
    (fun t _ => stepsProg (F := F) i x o t allSteps) (loopInv d i x o Sx So q f) ?hbody) $$ [Hx Ho]
  case hbody =>
    intro k _
    unfold loopInv
    iintro ⟨Hx, %g, %hg, Ho⟩
    iapply (wp_steps d i x o k hx ho q f allSteps 0 inOrder_allSteps g hg)
    isplitl [Hx]; · iexact Hx
    iexact Ho
  · unfold loopInv
    isplitl [Hx]; · iexact Hx
    iexists g; isplitr
    · ipureintro; exact fun j hj => absurd hj (Nat.not_lt_zero _)
    · iexact Ho
  · iintro %acc HI
    unfold loopInv
    icases HI with ⟨Hx, %g', %hg', Ho⟩
    iapply HK $$ %g' [] Hx Ho
    ipureintro
    funext j
    refine hg' j ?_
    have : (j 0).val < 16384 := (j 0).isLt
    show (j 0).val < 1024 * k0_t1_loop.trips
    rw [h16]; exact this

end Run

end Cert.Proof.MaxPool

end
-- ==== Proof.Tile.lean ====
/-
  What one tile does: its eight chunks of rows fetched, pooled and written back through two pairs of staging buffers, a transfer in
  flight on each of four semaphores. It leaves its words of the output at the whole input pooled, and all else as it was.
-/
module

public import proofs.«01_k».proof.Proof.Trip

@[expose] public section

noncomputable section

namespace Cert.Proof.MaxPool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ
abbrev xW : Memref Cert.KernelIdeal.sig Kind.scVector Space.hbm Cert.KernelIdeal.S8388608 EltTy.f32 := Memref.whole Cert.KernelIdeal.main_v0_scv
abbrev oW : Memref Cert.KernelIdeal.sig Kind.scVector Space.hbm Cert.KernelIdeal.S4194304 EltTy.f32 := Memref.whole Cert.KernelIdeal.main_v1_scv
abbrev xA : Memref Cert.KernelIdeal.sig Kind.scVector Space.vmem Cert.KernelIdeal.S32768 EltTy.f32 := Memref.whole Cert.KernelIdeal.cc0_scratch0
abbrev xB : Memref Cert.KernelIdeal.sig Kind.scVector Space.vmem Cert.KernelIdeal.S32768 EltTy.f32 := Memref.whole Cert.KernelIdeal.cc0_scratch1
abbrev oA : Memref Cert.KernelIdeal.sig Kind.scVector Space.vmem Cert.KernelIdeal.S16384 EltTy.f32 := Memref.whole Cert.KernelIdeal.cc0_scratch2
abbrev oB : Memref Cert.KernelIdeal.sig Kind.scVector Space.vmem Cert.KernelIdeal.S16384 EltTy.f32 := Memref.whole Cert.KernelIdeal.cc0_scratch3

/-- Chunk `c`'s rows of the input and its words of the output, as the kernel slices them. -/
abbrev xSl (i : grid0.Coords) (c : BitVec 32) (h : ∀ a, k0_off1 i c a + S32768.size a ≤ S8388608.size a) : Memref sig .scVector .hbm S32768 .f32 :=
  (xW).slice (Rect.unit (s := S8388608) (k0_off1 i c) S32768.size h) (fun _ => rfl)
abbrev oSl (i : grid0.Coords) (c : BitVec 32) (h : ∀ a, k0_off5 i c a + S16384.size a ≤ S4194304.size a) : Memref sig .scVector .hbm S16384 .f32 :=
  (oW).slice (Rect.unit (s := S4194304) (k0_off5 i c) S16384.size h) (fun _ => rfl)

variable (d : Dev nD) (i : grid0.Coords)

abbrev xC (c : BitVec 32) (h : ∀ a, k0_off1 i c a + S32768.size a ≤ S8388608.size a) (f : Buf (Elt F) ((xW).view.loc (thr d i))) : sProp 𝕄 :=
  (xSl i c h).view.loc (thr d i) ↦[(xSl i c h).view.set]{fullShare} f
abbrev oC (c : BitVec 32) (h : ∀ a, k0_off5 i c a + S16384.size a ≤ S4194304.size a) (f : Buf (Elt F) ((oW).view.loc (thr d i))) : sProp 𝕄 :=
  (oSl i c h).view.loc (thr d i) ↦[(oSl i c h).view.set]{fullShare} f

/-! ## A chunk's words, restated -/

/-- A chunk pooled on its own is the chunk of the whole array pooled. -/
theorem chunk_pooled (r : Fin 8) (X : Vec F S8388608 .f32) :
    pooled ((xSl i (BitVec.ofNat 32 (256 * r.val)) (k0_off1_inb i r)).view.read (Elt F) X)
      = (oSl i (BitVec.ofNat 32 (256 * r.val)) (k0_off5_inb i r)).view.read (Elt F) (poolAll X) := by
  funext j
  have hj : (j 0).val < 16384 := (j 0).isLt
  have e (a : S32768.Idx) : ((Rect.unit (s := S8388608) (k0_off1 i (BitVec.ofNat 32 (256 * r.val))) S32768.size (k0_off1_inb i r)).emb a 0).val
      = 524288 * (i 1).val + 262144 * (i 0).val + 32768 * r.val + (a 0).val := by
    show k0_off1 i (BitVec.ofNat 32 (256 * r.val)) 0 + 1 * (a 0).val = _
    rw [k0_off1_eq, Nat.one_mul]; rfl
  have e' : ((Rect.unit (s := S4194304) (k0_off5 i (BitVec.ofNat 32 (256 * r.val))) S16384.size (k0_off5_inb i r)).emb j 0).val
      = 262144 * (i 1).val + 131072 * (i 0).val + 16384 * r.val + (j 0).val := by
    show k0_off5 i (BitVec.ofNat 32 (256 * r.val)) 0 + 1 * (j 0).val = _
    rw [k0_off5_eq, Nat.one_mul]; rfl
  show FloatOps.maximumf (X ((Rect.unit (s := S8388608) (k0_off1 i (BitVec.ofNat 32 (256 * r.val))) S32768.size (k0_off1_inb i r)).emb (lo j)))
      (X ((Rect.unit (s := S8388608) (k0_off1 i (BitVec.ofNat 32 (256 * r.val))) S32768.size (k0_off1_inb i r)).emb (hi j)))
    = FloatOps.maximumf (X (loAll ((Rect.unit (s := S4194304) (k0_off5 i (BitVec.ofNat 32 (256 * r.val))) S16384.size (k0_off5_inb i r)).emb j)))
      (X (hiAll ((Rect.unit (s := S4194304) (k0_off5 i (BitVec.ofNat 32 (256 * r.val))) S16384.size (k0_off5_inb i r)).emb j)))
  have h1 : (Rect.unit (s := S8388608) (k0_off1 i (BitVec.ofNat 32 (256 * r.val))) S32768.size (k0_off1_inb i r)).emb (lo j)
      = loAll ((Rect.unit (s := S4194304) (k0_off5 i (BitVec.ofNat 32 (256 * r.val))) S16384.size (k0_off5_inb i r)).emb j) := by
    funext a
    obtain rfl : a = 0 := Subsingleton.elim _ _
    refine Fin.ext ((e (lo j)).trans ?_)
    show _ + (128 * ((j 0).val / 64) + (j 0).val % 64) = 128 * (_ / 64) + _ % 64
    rw [e']; omega
  have h2 : (Rect.unit (s := S8388608) (k0_off1 i (BitVec.ofNat 32 (256 * r.val))) S32768.size (k0_off1_inb i r)).emb (hi j)
      = hiAll ((Rect.unit (s := S4194304) (k0_off5 i (BitVec.ofNat 32 (256 * r.val))) S16384.size (k0_off5_inb i r)).emb j) := by
    funext a
    obtain rfl : a = 0 := Subsingleton.elim _ _
    refine Fin.ext ((e (hi j)).trans ?_)
    show _ + (128 * ((j 0).val / 64) + 64 + (j 0).val % 64) = 128 * (_ / 64) + 64 + _ % 64
    rw [e']; omega
  rw [h1, h2]

/-- A chunk of the output written whole is that chunk of any array reading the same there. -/
theorem oC_restate (c : BitVec 32) (h : ∀ a, k0_off5 i c a + S16384.size a ≤ S4194304.size a) (fd g : Buf (Elt F) ((oW).view.loc (thr d i)))
    (w : S16384.Idx → Elt F .f32) (hw : w = (oSl i c h).view.read (Elt F) g) :
    ((oSl i c h).view.loc (thr d i) ↦[(oSl i c h).view.set]{fullShare} (oSl i c h).view.writes (Elt F) fd [⟨Rect.whole S16384, w⟩] : sProp 𝕄)
      = oC d i c h g :=
  pointsTo_congr fun k hk => by
    obtain ⟨y, -, rfl⟩ := Finset.mem_map.mp hk
    have e := congrFun ((View.read_writes_whole (oSl i c h).view fd w).trans hw) y
    rw [View.read_apply, View.read_apply] at e
    exact cast_inj _ |>.mp e

/-- A chunk of the output, written whole with what the chunk of the input is pooled to, is its part of the whole array pooled. -/
theorem chunk_done {c : BitVec 32} {r : Fin 8} (hc : c = BitVec.ofNat 32 (256 * r.val)) (h1 : ∀ a, k0_off1 i c a + S32768.size a ≤ S8388608.size a)
    (h5 : ∀ a, k0_off5 i c a + S16384.size a ≤ S4194304.size a) (X : Buf (Elt F) ((xW).view.loc (thr d i))) (fd : Buf (Elt F) ((oW).view.loc (thr d i)))
    (w : S16384.Idx → Elt F .f32) (hw : w = pooled ((xSl i c h1).view.read (Elt F) X)) :
    ((oSl i c h5).view.loc (thr d i) ↦[(oSl i c h5).view.set]{fullShare} (oSl i c h5).view.writes (Elt F) fd [⟨Rect.whole S16384, w⟩] : sProp 𝕄)
      ⊢ oC d i c h5 (poolAll X) := by
  subst hc
  rw [oC_restate d i _ h5 fd (poolAll X) w (hw.trans (chunk_pooled i r X))]

/-! ## The tile's run -/

/-- A tile, from its eight chunks of the input and of the output, its staging buffers and its semaphores at zero: it ends with the
    input's chunks as they were, the output's at the whole input pooled, and the semaphores at zero again. -/
theorem tile (X : Buf (Elt F) ((xW).view.loc (thr d i))) (Y : Buf (Elt F) ((oW).view.loc (thr d i)))
    (O : CellTallies nD τ sig (HIx 1)) (W : Waits sig (HIx 1)) :
    (iprop(Transfers.MayWaits (thr d i) (none : HIx 1) O
      ∗ (xC d i 0#32 (k0_off1_inb i 0) X ∗ xC d i 256#32 (k0_off1_inb i 1) X ∗ xC d i 512#32 (k0_off1_inb i 2) X ∗ xC d i 768#32 (k0_off1_inb i 3) X
        ∗ xC d i 1024#32 (k0_off1_inb i 4) X ∗ xC d i 1280#32 (k0_off1_inb i 5) X ∗ xC d i 1536#32 (k0_off1_inb i 6) X ∗ xC d i 1792#32 (k0_off1_inb i 7) X)
      ∗ (oC d i 0#32 (k0_off5_inb i 0) Y ∗ oC d i 256#32 (k0_off5_inb i 1) Y ∗ oC d i 512#32 (k0_off5_inb i 2) Y ∗ oC d i 768#32 (k0_off5_inb i 3) Y
        ∗ oC d i 1024#32 (k0_off5_inb i 4) Y ∗ oC d i 1280#32 (k0_off5_inb i 5) Y ∗ oC d i 1536#32 (k0_off5_inb i 6) Y ∗ oC d i 1792#32 (k0_off5_inb i 7) Y)
      ∗ (∃ f : Buf (Elt F) ((xA).view.loc (thr d i)), (xA).view.loc (thr d i) ↦{fullShare} f) ∗ (∃ f : Buf (Elt F) ((xB).view.loc (thr d i)), (xB).view.loc (thr d i) ↦{fullShare} f)
      ∗ (∃ f : Buf (Elt F) ((oA).view.loc (thr d i)), (oA).view.loc (thr d i) ↦{fullShare} f) ∗ (∃ f : Buf (Elt F) ((oB).view.loc (thr d i)), (oB).view.loc (thr d i) ↦{fullShare} f)
      ∗ semVal (thr d i, SemLoc.dma cc0_scratch4.sem) 0 ∗ semVal (thr d i, SemLoc.dma cc0_scratch5.sem) 0
      ∗ semVal (thr d i, SemLoc.dma cc0_scratch6.sem) 0 ∗ semVal (thr d i, SemLoc.dma cc0_scratch7.sem) 0
      ∗ owes (thr d i) O W) : sProp 𝕄)
      ⊢ wp frame (wpE (defs₀ (F := F)) 𝒱₀ (thr d i) none) Set.univ
          (cc0__sc_maxpool i xW (Memref.isWhole_whole _) oW (Memref.isWhole_whole _) xA (Memref.isWhole_whole _) xB (Memref.isWhole_whole _)
            oA (Memref.isWhole_whole _) oB (Memref.isWhole_whole _) cc0_scratch4 cc0_scratch5 cc0_scratch6 cc0_scratch7)
          fun _ => iprop((xC d i 0#32 (k0_off1_inb i 0) X ∗ xC d i 256#32 (k0_off1_inb i 1) X ∗ xC d i 512#32 (k0_off1_inb i 2) X ∗ xC d i 768#32 (k0_off1_inb i 3) X
        ∗ xC d i 1024#32 (k0_off1_inb i 4) X ∗ xC d i 1280#32 (k0_off1_inb i 5) X ∗ xC d i 1536#32 (k0_off1_inb i 6) X ∗ xC d i 1792#32 (k0_off1_inb i 7) X)
      ∗ (oC d i 0#32 (k0_off5_inb i 0) (poolAll X) ∗ oC d i 256#32 (k0_off5_inb i 1) (poolAll X) ∗ oC d i 512#32 (k0_off5_inb i 2) (poolAll X) ∗ oC d i 768#32 (k0_off5_inb i 3) (poolAll X)
        ∗ oC d i 1024#32 (k0_off5_inb i 4) (poolAll X) ∗ oC d i 1280#32 (k0_off5_inb i 5) (poolAll X) ∗ oC d i 1536#32 (k0_off5_inb i 6) (poolAll X) ∗ oC d i 1792#32 (k0_off5_inb i 7) (poolAll X))
      ∗ (∃ f : Buf (Elt F) ((xA).view.loc (thr d i)), (xA).view.loc (thr d i) ↦{fullShare} f) ∗ (∃ f : Buf (Elt F) ((xB).view.loc (thr d i)), (xB).view.loc (thr d i) ↦{fullShare} f)
      ∗ (∃ f : Buf (Elt F) ((oA).view.loc (thr d i)), (oA).view.loc (thr d i) ↦{fullShare} f) ∗ (∃ f : Buf (Elt F) ((oB).view.loc (thr d i)), (oB).view.loc (thr d i) ↦{fullShare} f)
      ∗ semVal (thr d i, SemLoc.dma cc0_scratch4.sem) 0 ∗ semVal (thr d i, SemLoc.dma cc0_scratch5.sem) 0
      ∗ semVal (thr d i, SemLoc.dma cc0_scratch6.sem) 0 ∗ semVal (thr d i, SemLoc.dma cc0_scratch7.sem) 0
      ∗ ∃ W', owes (thr d i) O W' ∗ ⌜∀ p ∈ W', p ∈ W ∨ p.2 = none⌝) := by
  rw [cc0__sc_maxpool_eq_skeleton]; unfold cc0__sc_maxpool_skel
  iintro ⟨Hmw, ⟨Hx0, Hx1, Hx2, Hx3, Hx4, Hx5, Hx6, Hx7⟩, ⟨Ho0, Ho1, Ho2, Ho3, Ho4, Ho5, Ho6, Ho7⟩, ⟨%a0, HA⟩, ⟨%b0, HB⟩, ⟨%c0, HC⟩, ⟨%e0, HE⟩, Hs4, Hs5, Hs6, Hs7, HO⟩
  sl_exec
  iapply (wp_pool d i xA oA (Finset.subset_univ _) (Finset.subset_univ _) fullShare _ _) $$ [HA HC]
  · isplitl [HA] <;> iassumption
  iintro %g1 %hg1 HA HC
  sl_exec
  iapply (wp_pool d i xB oB (Finset.subset_univ _) (Finset.subset_univ _) fullShare _ _) $$ [HB HE]
  · isplitl [HB] <;> iassumption
  iintro %g2 %hg2 HB HE
  sl_exec
  iapply (wp_pool d i xA oA (Finset.subset_univ _) (Finset.subset_univ _) fullShare _ _) $$ [HA HC]
  · isplitl [HA] <;> iassumption
  iintro %g3 %hg3 HA HC
  sl_exec
  iapply (wp_pool d i xB oB (Finset.subset_univ _) (Finset.subset_univ _) fullShare _ _) $$ [HB HE]
  · isplitl [HB] <;> iassumption
  iintro %g4 %hg4 HB HE
  sl_exec
  iapply (wp_pool d i xA oA (Finset.subset_univ _) (Finset.subset_univ _) fullShare _ _) $$ [HA HC]
  · isplitl [HA] <;> iassumption
  iintro %g5 %hg5 HA HC
  sl_exec
  iapply (wp_pool d i xB oB (Finset.subset_univ _) (Finset.subset_univ _) fullShare _ _) $$ [HB HE]
  · isplitl [HB] <;> iassumption
  iintro %g6 %hg6 HB HE
  sl_exec
  iapply (wp_pool d i xA oA (Finset.subset_univ _) (Finset.subset_univ _) fullShare _ _) $$ [HA HC]
  · isplitl [HA] <;> iassumption
  iintro %g7 %hg7 HA HC
  sl_exec
  iapply (wp_pool d i xB oB (Finset.subset_univ _) (Finset.subset_univ _) fullShare _ _) $$ [HB HE]
  · isplitl [HB] <;> iassumption
  iintro %g8 %hg8 HB HE
  sl_exec
  sl_step
  have w0 := hg1; rw [View.read_write_univ] at w0
  have w1 := hg2; rw [View.read_write_univ] at w1
  have w2 := hg3; rw [View.read_write_univ] at w2
  have w3 := hg4; rw [View.read_write_univ] at w3
  have w4 := hg5; rw [View.read_write_univ] at w4
  have w5 := hg6; rw [View.read_write_univ] at w5
  have w6 := hg7; rw [View.read_write_univ] at w6
  have w7 := hg8; rw [View.read_write_univ] at w7
  ihave Ho0 := (chunk_done d i (r := 0) (c := 0#32) rfl (k0_off1_inb i 0) (k0_off5_inb i 0) X _ (tile.sl.dma0_2 d i g1) w0) $$ Ho0
  ihave Ho1 := (chunk_done d i (r := 1) (c := 256#32) rfl (k0_off1_inb i 1) (k0_off5_inb i 1) X _ (tile.sl.dma0_4 d i g2) w1) $$ Ho1
  ihave Ho2 := (chunk_done d i (r := 2) (c := 512#32) rfl (k0_off1_inb i 2) (k0_off5_inb i 2) X _ (tile.sl.dma0_6 d i g3) w2) $$ Ho2
  ihave Ho3 := (chunk_done d i (r := 3) (c := 768#32) rfl (k0_off1_inb i 3) (k0_off5_inb i 3) X _ (tile.sl.dma0_8 d i g4) w3) $$ Ho3
  ihave Ho4 := (chunk_done d i (r := 4) (c := 1024#32) rfl (k0_off1_inb i 4) (k0_off5_inb i 4) X _ (tile.sl.dma0_10 d i g5) w4) $$ Ho4
  ihave Ho5 := (chunk_done d i (r := 5) (c := 1280#32) rfl (k0_off1_inb i 5) (k0_off5_inb i 5) X _ (tile.sl.dma0_12 d i g6) w5) $$ Ho5
  ihave Ho6 := (chunk_done d i (r := 6) (c := 1536#32) rfl (k0_off1_inb i 6) (k0_off5_inb i 6) X _ (tile.sl.dma0_14 d i g7) w6) $$ Ho6
  ihave Ho7 := (chunk_done d i (r := 7) (c := 1792#32) rfl (k0_off1_inb i 7) (k0_off5_inb i 7) X _ (tile.sl.dma0_15 d i g8) w7) $$ Ho7
  isplitl [Hx0 Hx1 Hx2 Hx3 Hx4 Hx5 Hx6 Hx7]
  · isplitl [Hx0]; · iexact Hx0
    isplitl [Hx1]; · iexact Hx1
    isplitl [Hx2]; · iexact Hx2
    isplitl [Hx3]; · iexact Hx3
    isplitl [Hx4]; · iexact Hx4
    isplitl [Hx5]; · iexact Hx5
    isplitl [Hx6]; · iexact Hx6
    iexact Hx7
  isplitl [Ho0 Ho1 Ho2 Ho3 Ho4 Ho5 Ho6 Ho7]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  isplitl [HA]; · iexists _; iexact HA
  isplitl [HB]; · iexists _; iexact HB
  isplitl [HC]; · iexists _; iexact HC
  isplitl [HE]; · iexists _; iexact HE
  isplitl [Hs4]; · iexact Hs4
  isplitl [Hs5]; · iexact Hs5
  isplitl [Hs6]; · iexact Hs6
  isplitl [Hs7]; · iexact Hs7
  iexists _; isplitl [HO]; · iexact HO
  ipureintro; intro p hp
  repeat' (rcases Finset.mem_insert.mp hp with rfl | hp; · exact .inr rfl)
  exact .inl hp

end Cert.Proof.MaxPool

end
-- ==== Proof.Deal.lean ====
/-
  How the two arrays of the call are dealt: the input and the output, each cut in 2 × 16 × 8 chunks — a SparseCore, a tile of it, a
  round of the tile — in the spelling in which a tile slices them.
-/
module

public import proofs.«01_k».proof.Proof.Tile

@[expose] public section

noncomputable section

namespace Cert.Proof.MaxPool

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The grid point of tile `s` of SparseCore `c`. -/
def gridAt (c : Fin 2) (s : Fin 16) : grid0.Coords :=
  fun | 0 => c | 1 => s | ⟨_ + 2, h⟩ => absurd h (Nat.not_lt.2 (Nat.le_add_left _ _))

abbrev Chunk : Type := Fin 2 × Fin 16 × Fin 8

/-- Chunk `p`'s elements of the input and of the output. -/
def xSet (p : Chunk) : Finset S8388608.Idx :=
  (Rect.unit (s := S8388608) (k0_off1 (gridAt p.1 p.2.1) (BitVec.ofNat 32 (256 * p.2.2.val))) S32768.size (k0_off1_inb _ p.2.2)).set
def oSet (p : Chunk) : Finset S4194304.Idx :=
  (Rect.unit (s := S4194304) (k0_off5 (gridAt p.1 p.2.1) (BitVec.ofNat 32 (256 * p.2.2.val))) S16384.size (k0_off5_inb _ p.2.2)).set

theorem mem_xSet {p : Chunk} {k : S8388608.Idx} :
    k ∈ xSet p ↔ 524288 * p.2.1.val + 262144 * p.1.val + 32768 * p.2.2.val ≤ (k 0).val
      ∧ (k 0).val < 524288 * p.2.1.val + 262144 * p.1.val + 32768 * p.2.2.val + 32768 := by
  unfold xSet
  rw [Rect.mem_set_unit, k0_off1_eq]
  exact ⟨fun h => h 0, fun h a => by obtain rfl : a = 0 := Subsingleton.elim _ _; exact h⟩
theorem mem_oSet {p : Chunk} {k : S4194304.Idx} :
    k ∈ oSet p ↔ 262144 * p.2.1.val + 131072 * p.1.val + 16384 * p.2.2.val ≤ (k 0).val
      ∧ (k 0).val < 262144 * p.2.1.val + 131072 * p.1.val + 16384 * p.2.2.val + 16384 := by
  unfold oSet
  rw [Rect.mem_set_unit, k0_off5_eq]
  exact ⟨fun h => h 0, fun h a => by obtain rfl : a = 0 := Subsingleton.elim _ _; exact h⟩

/-- Two chunks that start at the same multiple of one chunk are the same chunk. -/
theorem chunk_ext {p p' : Chunk} (h : 16 * p.2.1.val + 8 * p.1.val + p.2.2.val = 16 * p'.2.1.val + 8 * p'.1.val + p'.2.2.val) : p = p' := by
  obtain ⟨c, s, r⟩ := p; obtain ⟨c', s', r'⟩ := p'
  have := c.isLt; have := r.isLt; have := c'.isLt; have := r'.isLt
  dsimp only at h
  exact Prod.ext (Fin.ext (by dsimp only; omega)) (Prod.ext (Fin.ext (by dsimp only; omega)) (Fin.ext (by dsimp only; omega)))

theorem xSet_disjoint : ∀ p ∈ (Finset.univ : Finset Chunk), ∀ p' ∈ (Finset.univ : Finset Chunk), p ≠ p' → Disjoint (xSet p) (xSet p') :=
  fun p _ p' _ hne => Finset.disjoint_left.mpr fun k h h' => by
    rw [mem_xSet] at h h'
    exact hne (chunk_ext (by omega))
theorem oSet_disjoint : ∀ p ∈ (Finset.univ : Finset Chunk), ∀ p' ∈ (Finset.univ : Finset Chunk), p ≠ p' → Disjoint (oSet p) (oSet p') :=
  fun p _ p' _ hne => Finset.disjoint_left.mpr fun k h h' => by
    rw [mem_oSet] at h h'
    exact hne (chunk_ext (by omega))

theorem xSet_cover : (Finset.univ : Finset Chunk).biUnion xSet = Finset.univ :=
  Finset.eq_univ_of_forall fun k => Finset.mem_biUnion.mpr
    ⟨(⟨(k 0).val / 262144 % 2, by omega⟩, ⟨(k 0).val / 524288, by have : (k 0).val < 8388608 := (k 0).isLt; omega⟩, ⟨(k 0).val / 32768 % 8, by omega⟩),
      Finset.mem_univ _, by rw [mem_xSet]; dsimp only; omega⟩
theorem oSet_cover : (Finset.univ : Finset Chunk).biUnion oSet = Finset.univ :=
  Finset.eq_univ_of_forall fun k => Finset.mem_biUnion.mpr
    ⟨(⟨(k 0).val / 131072 % 2, by omega⟩, ⟨(k 0).val / 262144, by have : (k 0).val < 4194304 := (k 0).isLt; omega⟩, ⟨(k 0).val / 16384 % 8, by omega⟩),
      Finset.mem_univ _, by rw [mem_oSet]; dsimp only; omega⟩

abbrev xLoc (d : Dev nD) : Loc nD τ sig := (SparseCore.T d).loc main_v0
abbrev oLoc (d : Dev nD) : Loc nD τ sig := (SparseCore.T d).loc main_v1

/-- Tile `s` of SparseCore `c`'s part of the input and of the output: its eight chunks. -/
def xTile (d : Dev nD) (c : Fin 2) (s : Fin 16) (f : Buf (Elt F) (xLoc d)) : sProp 𝕄 := bigSep Finset.univ fun r : Fin 8 => xLoc d ↦[xSet (c, s, r)]{fullShare} f
def oTile (d : Dev nD) (c : Fin 2) (s : Fin 16) (f : Buf (Elt F) (oLoc d)) : sProp 𝕄 := bigSep Finset.univ fun r : Fin 8 => oLoc d ↦[oSet (c, s, r)]{fullShare} f

instance xTile_storable (d c s) (f : Buf (Elt F) (xLoc d)) : BI.Storable (upEmb : UEmb _ 𝕄) (xTile d c s f) := by unfold xTile; infer_instance
instance oTile_storable (d c s) (f : Buf (Elt F) (oLoc d)) : BI.Storable (upEmb : UEmb _ 𝕄) (oTile d c s f) := by unfold oTile; infer_instance

theorem x_deal (d : Dev nD) (f : Buf (Elt F) (xLoc d)) :
    (xLoc d ↦{fullShare} f : sProp 𝕄) = bigSep Finset.univ fun c : Fin 2 => bigSep Finset.univ fun s : Fin 16 => xTile d c s f := by
  have h := pointsTo_biUnion (Ix := HIx 1) (Name := ℕ) (U := UU) (Lvl := ℕ) (q := fullShare) (f := f) (Finset.univ : Finset Chunk) (ℓ := xLoc d) xSet xSet_disjoint
  rw [xSet_cover] at h
  refine h.trans ((bigSep_univ_prod _).trans (bigSep_congr fun c _ => (bigSep_univ_prod _)))
theorem o_deal (d : Dev nD) (f : Buf (Elt F) (oLoc d)) :
    (oLoc d ↦{fullShare} f : sProp 𝕄) = bigSep Finset.univ fun c : Fin 2 => bigSep Finset.univ fun s : Fin 16 => oTile d c s f := by
  have h := pointsTo_biUnion (Ix := HIx 1) (Name := ℕ) (U := UU) (Lvl := ℕ) (q := fullShare) (f := f) (Finset.univ : Finset Chunk) (ℓ := oLoc d) oSet oSet_disjoint
  rw [oSet_cover] at h
  refine h.trans ((bigSep_univ_prod _).trans (bigSep_congr fun c _ => (bigSep_univ_prod _)))

theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide, SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), bigSep_singleton]

variable [FloatOps F]

/-- A chunk of a tile, as the tile's run spells it. -/
theorem xC_eq (d : Dev nD) (c : Fin 2) (s : Fin 16) (r : Fin 8) (f : Buf (Elt F) (xLoc d)) :
    (xLoc d ↦[xSet (c, s, r)]{fullShare} f : sProp 𝕄) = xC d (gridAt c s) (BitVec.ofNat 32 (256 * r.val)) (k0_off1_inb _ r) f := by
  have h : xSet (c, s, r) = (xSl (gridAt c s) (BitVec.ofNat 32 (256 * r.val)) (k0_off1_inb _ r)).view.set := by
    exact (View.set_slice_whole (main_v0_scv : Ref sig .scVector) (Rect.unit (s := S8388608) (k0_off1 (gridAt c s) (BitVec.ofNat 32 (256 * r.val))) S32768.size (k0_off1_inb _ r))).symm
  rw [h]
theorem oC_eq (d : Dev nD) (c : Fin 2) (s : Fin 16) (r : Fin 8) (f : Buf (Elt F) (oLoc d)) :
    (oLoc d ↦[oSet (c, s, r)]{fullShare} f : sProp 𝕄) = oC d (gridAt c s) (BitVec.ofNat 32 (256 * r.val)) (k0_off5_inb _ r) f := by
  have h : oSet (c, s, r) = (oSl (gridAt c s) (BitVec.ofNat 32 (256 * r.val)) (k0_off5_inb _ r)).view.set := by
    exact (View.set_slice_whole (main_v1_scv : Ref sig .scVector) (Rect.unit (s := S4194304) (k0_off5 (gridAt c s) (BitVec.ofNat 32 (256 * r.val))) S16384.size (k0_off5_inb _ r))).symm
  rw [h]

end Cert.Proof.MaxPool

end
-- ==== Proof.Launch.lean ====
/-
  The whole program: the first reshape, the call on two SparseCores of sixteen tiles each, the second reshape. Every run ends with the
  argument as it was, the result the argument pooled between the two reshapes, and every semaphore at zero.
-/
module

public import proofs.«01_k».proof.Proof.Deal

@[expose] public section

noncomputable section

namespace Cert.Proof.MaxPool

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's two operations -/

abbrev b0 : DevRef τ sig := Proc.devRef .tc (main_arg0 : Ref sig .tc)
abbrev b1 : DevRef τ sig := Proc.devRef .tc (main_v0 : Ref sig .tc)
abbrev b2 : DevRef τ sig := Proc.devRef .tc (main_v1 : Ref sig .tc)
abbrev b3 : DevRef τ sig := Proc.devRef .tc (main_v2 : Ref sig .tc)

/-- The argument flattened; the call's array given its rank back. -/
abbrev opIn : HloOp τ sig (Elt F) := StableHlo.reshape main_arg0 main_v0 (rfl : (.f32 : EltTy) = .f32) shapeCasts_S128x512x128_S8388608
abbrev opOut : HloOp τ sig (Elt F) := StableHlo.reshape main_v1 main_v2 (rfl : (.f32 : EltTy) = .f32) shapeCasts_S4194304_S128x512x64

/-- What the host holds at launch, and what it has flattened for the call. -/
def V0 (d : Dev nD) : Valuation τ sig (Elt F) := fun b => m (d, b)
def V1 (d : Dev nD) : Valuation τ sig (Elt F) := (opIn (F := F)).result (V0 m d)
/-- The call's input. -/
def X (d : Dev nD) : Buf (Elt F) (xLoc d) := V1 m d b1
/-- After the call: the output array pooled. -/
def V2 (d : Dev nD) : Valuation τ sig (Elt F) := Function.update (V1 m d) b2 (poolAll (X m d))
def V3 (d : Dev nD) : Valuation τ sig (Elt F) := (opOut (F := F)).result (V2 m d)

/-! ## What the call's handshakes carry -/

/-- To a tile its chunks of the input and of the output, the latter as launched; from it the same, the latter pooled; to and from a
    SparseCore its sixteen tiles'. -/
def P : (K (F := F)).Pay (nD := nD) (Val := Elt F) (Name := ℕ) (U := UU) where
  st := fun q d => match q with
    | 0 => fun c : Fin 2 => bigSep Finset.univ fun s : Fin 16 => iprop(xTile d c s (X m d) ∗ oTile d c s (m (oLoc d)))
  dn := fun q d => match q with
    | 0 => fun c : Fin 2 => bigSep Finset.univ fun s : Fin 16 => iprop(xTile d c s (X m d) ∗ oTile d c s (poolAll (X m d)))
  go := fun q d => match q with
    | 0 => fun (c : Fin 2) (s : Fin 16) => iprop(xTile d c s (X m d) ∗ oTile d c s (m (oLoc d)))
  td := fun q d => match q with
    | 0 => fun (c : Fin 2) (s : Fin 16) => iprop(xTile d c s (X m d) ∗ oTile d c s (poolAll (X m d)))
  x := fun _ _ => iprop(emp)

instance P_storable : (P (F := F) m).IsStorable where
  st q d := match q with
    | 0 => fun c : Fin 2 => (inferInstance : BI.Storable (upEmb : UEmb _ 𝕄) (bigSep Finset.univ fun s : Fin 16 => iprop(xTile d c s (X m d) ∗ oTile d c s (m (oLoc d)))))
  dn q d := match q with
    | 0 => fun c : Fin 2 => (inferInstance : BI.Storable (upEmb : UEmb _ 𝕄) (bigSep Finset.univ fun s : Fin 16 => iprop(xTile d c s (X m d) ∗ oTile d c s (poolAll (X m d)))))
  go q d := match q with
    | 0 => fun (c : Fin 2) (s : Fin 16) => (inferInstance : BI.Storable (upEmb : UEmb _ 𝕄) iprop(xTile d c s (X m d) ∗ oTile d c s (m (oLoc d))))
  td q d := match q with
    | 0 => fun (c : Fin 2) (s : Fin 16) => (inferInstance : BI.Storable (upEmb : UEmb _ 𝕄) iprop(xTile d c s (X m d) ∗ oTile d c s (poolAll (X m d))))

/-! ## A tile's own buffers and semaphores -/

section Own

variable (d : Dev nD) (i : grid0.Coords)

abbrev scrRef (r : Ref sig .scVector) : DevRef τ sig := (Proc.scVector (cV i) (jV i)).devRef r
/-- The four staging buffers; the four transfers' semaphores. -/
def staging : Finset (DevRef τ sig) := {scrRef i cc0_scratch0, scrRef i cc0_scratch1, scrRef i cc0_scratch2, scrRef i cc0_scratch3}
abbrev semCell (s : DmaSem sig) : GSem nD τ sig := (thr d i, SemLoc.dma s)
def transferSems : Finset (GSem nD τ sig) :=
  {semCell d i cc0_scratch4.sem, semCell d i cc0_scratch5.sem, semCell d i cc0_scratch6.sem, semCell d i cc0_scratch7.sem}

theorem scrRef_ne {r r' : Ref sig .scVector} (h : r ≠ r') : scrRef i r ≠ scrRef i r' := fun e => h (Proc.devRef_injective _ e)
theorem semCell_ne {s s' : DmaSem sig} (h : s ≠ s') : semCell d i s ≠ semCell d i s' := fun e => h (SemLoc.dma.inj (Prod.mk.inj e).2)

theorem ownBufs_split : (ownBufs (thr d i) : sProp 𝕄)
    = iprop(((∃ f : Buf (Elt F) ((xA).view.loc (thr d i)), (xA).view.loc (thr d i) ↦{fullShare} f)
        ∗ (∃ f : Buf (Elt F) ((xB).view.loc (thr d i)), (xB).view.loc (thr d i) ↦{fullShare} f)
        ∗ (∃ f : Buf (Elt F) ((oA).view.loc (thr d i)), (oA).view.loc (thr d i) ↦{fullShare} f)
        ∗ (∃ f : Buf (Elt F) ((oB).view.loc (thr d i)), (oB).view.loc (thr d i) ↦{fullShare} f))
      ∗ bigSep (ownRefs (τ := τ) (.scVector (cV i) (jV i)) \ staging i) fun b => iprop(∃ f, ((d, b) : Loc nD τ sig) ↦{fullShare} f)) := by
  unfold SparseCore.Cfg.ownBufs
  refine (SparseCore.bigSep_sdiff_split' (t := staging i) fun b hb => ?_).trans ?_
  · simp only [staging, Finset.mem_insert, Finset.mem_singleton] at hb
    rcases hb with rfl | rfl | rfl | rfl <;> exact SparseCore.Cfg.mem_ownRefs_of_owner rfl
  · congr 1
    unfold staging
    rw [SparseCore.bigSep_insert', SparseCore.bigSep_insert', SparseCore.bigSep_insert', bigSep_singleton]
    · simp only [Finset.mem_singleton]; exact scrRef_ne i (by decide)
    · simp only [Finset.mem_insert, Finset.mem_singleton, not_or]; exact ⟨scrRef_ne i (by decide), scrRef_ne i (by decide)⟩
    · simp only [Finset.mem_insert, Finset.mem_singleton, not_or]; exact ⟨scrRef_ne i (by decide), scrRef_ne i (by decide), scrRef_ne i (by decide)⟩

theorem ownSems0_split : (ownSems0 (thr d i) : sProp 𝕄)
    = iprop((semVal (thr d i, SemLoc.dma cc0_scratch4.sem) 0 ∗ semVal (thr d i, SemLoc.dma cc0_scratch5.sem) 0
        ∗ semVal (thr d i, SemLoc.dma cc0_scratch6.sem) 0 ∗ semVal (thr d i, SemLoc.dma cc0_scratch7.sem) 0)
      ∗ bigSep (ownCells (thr d i) \ transferSems d i) fun g => semVal g 0) := by
  unfold SparseCore.Cfg.ownSems0
  refine (SparseCore.bigSep_sdiff_split' (t := transferSems d i) fun g hg => ?_).trans ?_
  · simp only [transferSems, Finset.mem_insert, Finset.mem_singleton] at hg
    rcases hg with rfl | rfl | rfl | rfl <;>
      exact mem_ownCells.mpr ⟨rfl, (show ∀ s : DmaSem sig, (SemLoc.dma s : SemLoc sig).isScoped .scVector = true by decide) _⟩
  · congr 1
    unfold transferSems
    rw [SparseCore.bigSep_insert', SparseCore.bigSep_insert', SparseCore.bigSep_insert', bigSep_singleton]
    · simp only [Finset.mem_singleton]; exact semCell_ne d i (by decide)
    · simp only [Finset.mem_insert, Finset.mem_singleton, not_or]; exact ⟨semCell_ne d i (by decide), semCell_ne d i (by decide)⟩
    · simp only [Finset.mem_insert, Finset.mem_singleton, not_or]; exact ⟨semCell_ne d i (by decide), semCell_ne d i (by decide), semCell_ne d i (by decide)⟩

end Own

/-! ## A tile's task -/

theorem xTile_eq (d : Dev nD) (c : Fin 2) (s : Fin 16) (f : Buf (Elt F) (xLoc d)) : (xTile d c s f : sProp 𝕄)
    = iprop(xC d (gridAt c s) 0#32 (k0_off1_inb _ 0) f ∗ xC d (gridAt c s) 256#32 (k0_off1_inb _ 1) f ∗ xC d (gridAt c s) 512#32 (k0_off1_inb _ 2) f
      ∗ xC d (gridAt c s) 768#32 (k0_off1_inb _ 3) f ∗ xC d (gridAt c s) 1024#32 (k0_off1_inb _ 4) f ∗ xC d (gridAt c s) 1280#32 (k0_off1_inb _ 5) f
      ∗ xC d (gridAt c s) 1536#32 (k0_off1_inb _ 6) f ∗ xC d (gridAt c s) 1792#32 (k0_off1_inb _ 7) f) := by
  unfold xTile
  rw [bigSep_congr fun r _ => xC_eq d c s r f, bigSep_eight]; rfl
theorem oTile_eq (d : Dev nD) (c : Fin 2) (s : Fin 16) (f : Buf (Elt F) (oLoc d)) : (oTile d c s f : sProp 𝕄)
    = iprop(oC d (gridAt c s) 0#32 (k0_off5_inb _ 0) f ∗ oC d (gridAt c s) 256#32 (k0_off5_inb _ 1) f ∗ oC d (gridAt c s) 512#32 (k0_off5_inb _ 2) f
      ∗ oC d (gridAt c s) 768#32 (k0_off5_inb _ 3) f ∗ oC d (gridAt c s) 1024#32 (k0_off5_inb _ 4) f ∗ oC d (gridAt c s) 1280#32 (k0_off5_inb _ 5) f
      ∗ oC d (gridAt c s) 1536#32 (k0_off5_inb _ 6) f ∗ oC d (gridAt c s) 1792#32 (k0_off5_inb _ 7) f) := by
  unfold oTile
  rw [bigSep_congr fun r _ => oC_eq d c s r f, bigSep_eight]; rfl

theorem task (d : Dev nD) (c : Fin 2) (s : Fin 16) (f : Buf (Elt F) (xLoc d)) (g : Buf (Elt F) (oLoc d)) (O : CellTallies nD τ sig (HIx 1)) (W : Waits sig (HIx 1)) (hO : ∀ g, O g none = 0) :
    iprop(levAts (K (F := F)).L (K (F := F)).lev ∗ emp ∗ (xTile d c s f ∗ oTile d c s g)
        ∗ scopedBufs (thr d (gridAt c s)) ∗ scopedSems0 (thr d (gridAt c s)) ∗ owes (thr d (gridAt c s)) O W)
      ⊢ wp frame (wpE (defs₀ (F := F)) 𝒱₀ (thr d (gridAt c s)) none) Set.univ
          (cc0__sc_maxpool (gridAt c s) xW (Memref.isWhole_whole _) oW (Memref.isWhole_whole _) xA (Memref.isWhole_whole _) xB (Memref.isWhole_whole _)
            oA (Memref.isWhole_whole _) oB (Memref.isWhole_whole _) cc0_scratch4 cc0_scratch5 cc0_scratch6 cc0_scratch7)
          fun _ => iprop((xTile d c s f ∗ oTile d c s (poolAll f)) ∗ scopedBufs (thr d (gridAt c s)) ∗ scopedSems0 (thr d (gridAt c s))
            ∗ ∃ W', ⌜∀ p ∈ W', p ∈ W ∨ p.2 = none ∨ p.2 = some (0 : Fin 1)⌝ ∗ owes (thr d (gridAt c s)) O W') := by
  rw [(K (F := F)).scopedBufs_V facts d (cV (gridAt c s)) (jV (gridAt c s)), SparseCore.Cfg.scopedSems0_V (Val := Elt F) d (cV (gridAt c s)) (jV (gridAt c s)),
    ownSems0_split, ownBufs_split, xTile_eq, oTile_eq, oTile_eq]
  iintro ⟨#Hlv, -, ⟨Hx, Ho⟩, ⟨⟨HA, HB, HC, HE⟩, Hbufs⟩, ⟨⟨Hs4, Hs5, Hs6, Hs7⟩, Hsems⟩, HO⟩
  ihave Hmw := (show levAts (K (F := F)).L (K (F := F)).lev ⊢ Transfers.MayWaits (thr d (gridAt c s)) (none : HIx 1) O from
    (K (F := F)).mayWaits_none (thr := thr d (gridAt c s)) hO) $$ Hlv
  iapply (wp_wand_r Idealize.ShloMosaic.frame (wpE (defs₀ (F := F)) 𝒱₀ (thr d (gridAt c s)) none) Set.univ)
  isplitl [Hx Ho HA HB HC HE Hs4 Hs5 Hs6 Hs7 HO]
  · iapply (tile d (gridAt c s) f g O W)
    isplitr; · iexact Hmw
    isplitl [Hx]; · iexact Hx
    isplitl [Ho]; · iexact Ho
    isplitl [HA]; · iexact HA
    isplitl [HB]; · iexact HB
    isplitl [HC]; · iexact HC
    isplitl [HE]; · iexact HE
    isplitl [Hs4]; · iexact Hs4
    isplitl [Hs5]; · iexact Hs5
    isplitl [Hs6]; · iexact Hs6
    isplitl [Hs7]; · iexact Hs7
    iexact HO
  iintro %_ ⟨Hx, Ho, HA, HB, HC, HE, Hs4, Hs5, Hs6, Hs7, %W', HO, %hW'⟩
  isplitl [Hx Ho]
  · isplitl [Hx]; · iexact Hx
    iexact Ho
  isplitl [HA HB HC HE Hbufs]
  · isplitl [HA HB HC HE]
    · isplitl [HA]; · iexact HA
      isplitl [HB]; · iexact HB
      isplitl [HC]; · iexact HC
      iexact HE
    · iexact Hbufs
  isplitl [Hs4 Hs5 Hs6 Hs7 Hsems]
  · isplitl [Hs4 Hs5 Hs6 Hs7]
    · isplitl [Hs4]; · iexact Hs4
      isplitl [Hs5]; · iexact Hs5
      isplitl [Hs6]; · iexact Hs6
      iexact Hs7
    · iexact Hsems
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0__sc_maxpool (gridAt c s) xW (Memref.isWhole_whole _) oW (Memref.isWhole_whole _)
          xA (Memref.isWhole_whole _) xB (Memref.isWhole_whole _) oA (Memref.isWhole_whole _) oB (Memref.isWhole_whole _)
          cc0_scratch4 cc0_scratch5 cc0_scratch6 cc0_scratch7) ⟨⟩ c s := rfl

theorem tileObl : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hcs : ((K (F := F)).core 0 c).val < grid0.bound 0 ∧ ((K (F := F)).sub 0 s).val < grid0.bound 1 := ⟨c.isLt, s.isLt⟩
  rw [defs₀_vector]; simp only [SparseCore.onTile, hcs, and_self, ↓reduceDIte]
  exact task d c s (X m d) (m (oLoc d)) O W hO

theorem vecSplit : (K (F := F)).VecSplit' (P m) 0 := by
  intro d c
  show (bigSep Finset.univ fun s : Fin 16 => iprop(xTile d c s (X m d) ∗ oTile d c s (m (oLoc d)))) ⊢ |={Set.univ}=> iprop(
      (bigSep Finset.univ fun s : Fin 16 => iprop(xTile d c s (X m d) ∗ oTile d c s (m (oLoc d))))
      ∗ ((bigSep Finset.univ fun s : Fin 16 => iprop(xTile d c s (X m d) ∗ oTile d c s (poolAll (X m d))))
          -∗ bigSep Finset.univ fun s : Fin 16 => iprop(xTile d c s (X m d) ∗ oTile d c s (poolAll (X m d)))))
  iintro H; imodintro
  isplitl [H]; · iexact H
  iintro H; iexact H

/-! ## The launch's ghost element -/

def u₀ : UU := (initOf (K (F := F)).hsCells (K (F := F)).hsToks, 1)

theorem deal_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [deal_emp]; iempintro
  rw [show (bigSep Finset.univ fun thr : Thread nD τ => bigSep Finset.univ fun q : Fin 1 => (P m).x q thr) = (iprop(emp) : sProp 𝕄) from by
    show (bigSep Finset.univ fun _ : Thread nD τ => bigSep Finset.univ fun _ : Fin 1 => (iprop(emp) : sProp 𝕄)) = _
    rw [bigSep_congr fun _ _ => deal_emp _, deal_emp]]
  iempintro

/-! ## The host's program -/

abbrev host : Finset (DevRef τ sig) := {b0, b1, b2, b3}

theorem held_host (d : Dev nD) (W : Valuation τ sig (Elt F)) :
    (held (T d) host W : sProp 𝕄) = iprop(((SparseCore.T d).loc main_arg0 ↦{fullShare} W b0) ∗ (xLoc d ↦{fullShare} W b1) ∗ (oLoc d ↦{fullShare} W b2)
      ∗ (SparseCore.T d).loc main_v2 ↦{fullShare} W b3) := by
  unfold held host
  rw [SparseCore.bigSep_insert' (by decide), SparseCore.bigSep_insert' (by decide), SparseCore.bigSep_insert' (by decide), bigSep_singleton]

theorem unscoped_host (d : Dev nD) : (unscopedBufs d (fun b => m ((SparseCore.T d).loc b)) : sProp 𝕄) = held (T d) host (V0 m d) := by
  rw [held_host]
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]
  rfl

theorem halves (d : Dev nD) (f : Buf (Elt F) (xLoc d)) (g : Buf (Elt F) (oLoc d)) :
    (bigSep Finset.univ fun c : Fin 2 => bigSep Finset.univ fun s : Fin 16 => iprop(xTile d c s f ∗ oTile d c s g) : sProp 𝕄)
      = iprop((xLoc d ↦{fullShare} f) ∗ oLoc d ↦{fullShare} g) := by
  rw [bigSep_congr fun c _ => bigSep_sep' Finset.univ (fun s => xTile d c s f) (fun s => oTile d c s g), bigSep_sep', ← x_deal, ← o_deal]
theorem st_eq (d : Dev nD) : (bigSep Finset.univ fun c : Fin ((K (F := F)).nCore 0) => (P m).st 0 d c)
    = iprop((xLoc d ↦{fullShare} X m d) ∗ oLoc d ↦{fullShare} m (oLoc d)) := by
  show (bigSep Finset.univ fun c : Fin 2 => bigSep Finset.univ fun s : Fin 16 => iprop(xTile d c s (X m d) ∗ oTile d c s (m (oLoc d)))) = _
  exact halves d (X m d) (m (oLoc d))
theorem dn_eq (d : Dev nD) : (bigSep Finset.univ fun c : Fin ((K (F := F)).nCore 0) => (P m).dn 0 d c)
    = iprop((xLoc d ↦{fullShare} X m d) ∗ oLoc d ↦{fullShare} poolAll (X m d)) := by
  show (bigSep Finset.univ fun c : Fin 2 => bigSep Finset.univ fun s : Fin 16 => iprop(xTile d c s (X m d) ∗ oTile d c s (poolAll (X m d)))) = _
  exact halves d (X m d) (poolAll (X m d))

/-- What the run ends with: the argument as launched, the result. -/
abbrev FIN (d : Dev nD) : sProp 𝕄 :=
  iprop(((SparseCore.T d).loc main_arg0 ↦{fullShare} m ((SparseCore.T d).loc main_arg0)) ∗ (SparseCore.T d).loc main_v2 ↦{fullShare} V3 m d b3)

theorem V1_other (d : Dev nD) {b : DevRef τ sig} (h : b ∉ ({b1} : Finset (DevRef τ sig))) : V1 m d b = m (d, b) :=
  (opIn (F := F)).result_of_not_mem (V0 m d) h
theorem V2_other (d : Dev nD) {b : DevRef τ sig} (h : b ≠ b2) : V2 m d b = V1 m d b := Function.update_of_ne h _ _
theorem V2_out (d : Dev nD) : V2 m d b2 = poolAll (X m d) := Function.update_self _ _ _
theorem V3_other (d : Dev nD) {b : DevRef τ sig} (h : b ∉ ({b3} : Finset (DevRef τ sig))) : V3 m d b = V2 m d b :=
  (opOut (F := F)).result_of_not_mem (V2 m d) h

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_host]
  simp only [main, wp_bind, wp_pure]
  iintro ⟨#Hctx, Hst, ⟨Hb, Hheld, Hts, -⟩, -⟩
  -- the argument flattened
  iapply (wp_hlo_within 𝒱 (SparseCore.T d) none Set.univ (op := opIn) (S := host) (show ({b0, b1} : Finset (DevRef τ sig)) ⊆ host by decide) (V := V0 m d)) $$ [Hb Hheld]
  · isplitl [Hb] <;> iassumption
  iintro ⟨Hb, Hheld⟩
  rw [wp_ret]; imodintro
  ihave Hh := (show held (T d) host ((opIn (F := F)).result (V0 m d)) ⊢ _ from Entails.of_eq (held_host (F := F) d (V1 m d))) $$ Hheld
  icases Hh with ⟨H0, Hx, Ho, H3⟩
  -- the call
  iapply ((K (F := F)).wp_run (D (F := F)) 𝒱 (EH := EH) (P := P m) κ d 0) $$ [Hst H0 Hx Ho H3 Hb Hts]
  isplitr; · iexact Hctx
  isplitl [Hst]; · iexact Hst
  isplitl [Hx Ho]
  · rw [st_eq, V1_other m d (b := b2) (by decide)]
    isplitl [Hx]; · iexact Hx
    iexact Ho
  iintro ⟨Hst, Hdn⟩
  ihave Hdn' := (Entails.of_eq (dn_eq m d)) $$ Hdn
  icases Hdn' with ⟨Hx, Ho⟩
  -- the result given its rank back
  iapply (wp_hlo_within 𝒱 (SparseCore.T d) none Set.univ (op := opOut) (S := host) (show ({b2, b3} : Finset (DevRef τ sig)) ⊆ host by decide) (V := V2 m d)) $$ [Hb H0 Hx Ho H3]
  · isplitl [Hb]; · iexact Hb
    rw [held_host, V2_out, V2_other m d (b := b0) (by decide), V2_other m d (b := b1) (by decide), V2_other m d (b := b3) (by decide)]
    isplitl [H0]; · iexact H0
    isplitl [Hx]; · iexact Hx
    isplitl [Ho]; · iexact Ho
    iexact H3
  iintro ⟨Hb, Hheld⟩
  ihave Hh := (show held (T d) host ((opOut (F := F)).result (V2 m d)) ⊢ _ from Entails.of_eq (held_host (F := F) d (V3 m d))) $$ Hheld
  rw [V3_other m d (b := b0) (by decide), V2_other m d (b := b0) (by decide), V1_other m d (b := b0) (by decide)]
  icases Hh with ⟨H0, -, -, H3⟩
  rw [wp_ret]; imodintro; imodintro
  isplitl [Hst]; · iexact Hst
  isplitr [Hb Hts]
  · isplitl [H0]; · iexact H0
    iexact H3
  isplitl [Hb] <;> iassumption

def fq (d : Dev nD) (s' : Phys nD τ sig (Elt F)) : Prop :=
  s'.mem.mem ((SparseCore.T d).loc main_arg0) = m ((SparseCore.T d).loc main_arg0) ∧ s'.mem.mem ((SparseCore.T d).loc main_v2) = V3 m d b3

theorem hfin (d : Dev nD) (s' : Phys nD τ sig (Elt F)) : iprop(FIN m d ∗ SI s') ⊢ (⌜fq m d s'⌝ : sProp 𝕄) := by
  iintro ⟨⟨H0, H3⟩, HSI⟩
  ihave H := (persistent_entails_right (SI_pointsTo_agree (st := s') (ℓ := (SparseCore.T d).loc main_arg0) (I := Finset.univ) (q := fullShare)
    (f := m ((SparseCore.T d).loc main_arg0)))) $$ [HSI H0]
  · isplitl [HSI] <;> iassumption
  icases H with ⟨%h0, HSI, -⟩
  ihave H := (SI_pointsTo_agree (st := s') (ℓ := (SparseCore.T d).loc main_v2) (I := Finset.univ) (q := fullShare) (f := V3 m d b3)) $$ [HSI H3]
  · isplitl [HSI] <;> iassumption
  icases H with %h3
  ipureintro; exact ⟨funext fun k => h0 k (Finset.mem_univ k), funext fun k => h3 k (Finset.mem_univ k)⟩

/-! ## The run -/

def Ends : PUnit × MemSt nD τ sig (Elt F) → Prop := fun r =>
  (∀ c : Dev nD, r.2.mem ((SparseCore.T c).loc main_arg0) = m ((SparseCore.T c).loc main_arg0) ∧ r.2.mem ((SparseCore.T c).loc main_v2) = V3 m c b3)
    ∧ r.2.sem = fun _ => 0

/-- Every fair execution of the whole program ends with the argument as launched, the result the flat array pooled, every counter at zero. -/
theorem run_main [∀ e, Nonempty (Elt F e)] : θ_run (defs (F := F)) (threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (Ends m) (fun _ h hz => ⟨h, hz⟩)

end Cert.Proof.MaxPool

end
-- ==== Proof.Segment.lean ====
/-
  The two sides' values as functions of the one argument: both are `segmentMax`, entry (b, c, i) being the larger of the
  data's entries (b, c, i) and (b, c, 64 + i).
-/
module

public import proofs.«01_k».proof.Proof.Launch
public import proofs.«01_k».proof.Proof.Gen.ReferenceIdeal.Run
public import Idealize.ShloMosaic.Lib.Pointwise

@[expose] public section

noncomputable section

namespace Cert.Proof.MaxPool

open Idealize.ShloMosaic Idealize.SL.Sem

/-- The result: each row's two halves, entry by entry, the larger. -/
def segmentMax (x : FVec Ideal Cert.KernelIdeal.S128x512x128 .f32) : FVec Ideal Cert.KernelIdeal.S128x512x64 .f32 := fun j =>
  max (x (ix3 (j 0) (j 1) ⟨(j 2).val, by have := (j 2).isLt; simp at this ⊢; omega⟩))
    (x (ix3 (j 0) (j 1) ⟨64 + (j 2).val, by have := (j 2).isLt; simp at this ⊢; omega⟩))

namespace Ref
open Cert.ReferenceIdeal Cert.ReferenceIdeal.Gen

/-- The reference's composed operations, of its argument. -/
def result (x : FVec Ideal S128x512x128 .f32) : FVec Ideal S128x512x64 .f32 :=
  Host.reduce FloatOps.maximumf (select (broadcastInDim S128x512x64x128 ![0, 1, 2, 3] bcast_S1x1x64x128_S128x512x64x128_0_1_2_3 (broadcastInDim S1x1x64x128 ![2, 3] bcast_S64x128_S1x1x64x128_2_3 (cmpi .eq (broadcastInDim S64x128 ![0, 1] bcast_S64x1_S64x128_0_1 (broadcastInDim S64x1 ![0] bcast_S64_S64x1_0 (iotaInDim S64 32 0))) (broadcastInDim S64x128 ![0, 1] bcast_S1x128_S64x128_0_1 (broadcastInDim S1x128 ![1] bcast_S128_S1x128_1 (concatenate S128 0 [⟨S64, (iotaInDim S64 32 0)⟩, ⟨S64, (iotaInDim S64 32 0)⟩] concatenates_S64_S64_S128_d0)))))) (broadcastInDim S128x512x64x128 ![0, 1, 2, 3] bcast_S128x512x1x128_S128x512x64x128_0_1_2_3 (broadcastInDim S128x512x1x128 ![0, 1, 3] bcast_S128x512x128_S128x512x1x128_0_1_3 x)) (broadcastInDim S128x512x64x128 ![] bcast_S_S128x512x64x128 (id (constant S_ .f32 0xFF800000#32)))) (constant S_ .f32 0xFF800000#32) reducesTo_S128x512x64x128_S128x512x64_d3 h_S_

/-- The word the reference starts its maximum from, and puts outside the segment, is the least one. -/
theorem ofBits_neg_inf : Ideal.ofBits .f32 0xFF800000#32 = ⊥ := by simp [Ideal.ofBits, Ideal.ieee]

/-- The lanes of a row that lie in segment `i` are `i` and `64 + i`. -/
theorem mask_eq (i : Fin 64) (k : Fin 128) (a b : EReal) :
    Scalar.select (IntOp.cmpi .eq (BitVec.ofNat 32 i.val) (if k.val < 64 then BitVec.ofNat 32 k.val else BitVec.ofNat 32 (k.val - 64))) a b
      = if k.val = i.val ∨ k.val = 64 + i.val then a else b := by
  have h : (BitVec.ofNat 32 i.val = if k.val < 64 then BitVec.ofNat 32 k.val else BitVec.ofNat 32 (k.val - 64))
      ↔ (k.val = i.val ∨ k.val = 64 + i.val) := by
    have := i.isLt; have := k.isLt
    split <;> rw [← BitVec.toNat_inj] <;> simp only [BitVec.toNat_ofNat] <;> omega
  show (if BitVec.ofBool (BitVec.ofNat 32 i.val == if k.val < 64 then BitVec.ofNat 32 k.val else BitVec.ofNat 32 (k.val - 64)) = 1 then a else b) = _
  by_cases hk : k.val = i.val ∨ k.val = 64 + i.val
  · rw [if_pos hk, beq_iff_eq.2 (h.2 hk)]
    exact if_pos rfl
  · rw [if_neg hk, beq_eq_false_iff_ne.2 fun e => hk (h.1 e)]
    exact if_neg (by decide)

/-- A row's maximum over one segment, everything else the least word. -/
theorem fold_mask (i : Fin 64) (y : Fin 128 → EReal) :
    (Finset.univ.fold max ⊥ fun k : Fin 128 => if k.val = i.val ∨ k.val = 64 + i.val then y k else ⊥)
      = max (y ⟨i.val, by omega⟩) (y ⟨64 + i.val, by omega⟩) := by
  refine le_antisymm (Finset.fold_max_le _ |>.2 ⟨bot_le, fun k _ => ?_⟩) (max_le ?_ ?_)
  · split
    · next h => rcases h with h | h
                · exact le_max_of_le_left (le_of_eq (congrArg y (Fin.ext h)))
                · exact le_max_of_le_right (le_of_eq (congrArg y (Fin.ext h)))
    · exact bot_le
  · exact (Finset.le_fold_max _).2 (Or.inr ⟨⟨i.val, by omega⟩, Finset.mem_univ _, by rw [if_pos (Or.inl rfl)]⟩)
  · exact (Finset.le_fold_max _).2 (Or.inr ⟨⟨64 + i.val, by omega⟩, Finset.mem_univ _, by rw [if_pos (Or.inr rfl)]⟩)

theorem result_eq (x : FVec Ideal S128x512x128 .f32) : result x = segmentMax x := by
  funext j
  pointwise [result, segmentMax]
  refine Eq.trans ?_ (fold_mask (j 2) fun k => x (ix3 (j 0) (j 1) k))
  exact congrArg₂ (fun b f => Finset.fold max b f Finset.univ) ofBits_neg_inf
    (funext fun k => (mask_eq (j 2) k _ _).trans (congrArg (fun z => if k.val = (j 2).val ∨ k.val = 64 + (j 2).val then x (ix3 (j 0) (j 1) k) else z) ofBits_neg_inf))
end Ref

section
open Cert.KernelIdeal Cert.KernelIdeal.Gen

/-- The flat array's pooling, between the two reshapes, pools each segment. -/
theorem shapeCast_poolAll (x : FVec Ideal S128x512x128 .f32) :
    shapeCast S128x512x64 (poolAll (F := Ideal) (shapeCast S8388608 x shapeCasts_S128x512x128_S8388608)) shapeCasts_S4194304_S128x512x64 = segmentMax x := by
  funext j
  pointwise [segmentMax, poolAll, loAll, hiAll]
  have h0 : (j 0).val < 128 := (j 0).isLt
  have h1 : (j 1).val < 512 := (j 1).isLt
  have h2 : (j 2).val < 64 := (j 2).isLt
  refine congrArg₂ max (congrArg x ?_) (congrArg x ?_)
  · exact congr (congrArg₂ ix3 (Fin.ext (by show _ = (j 0).val; simp only []; omega)) (Fin.ext (by show _ = (j 1).val; simp only []; omega))) (Fin.ext (by simp only []; omega))
  · exact congr (congrArg₂ ix3 (Fin.ext (by show _ = (j 0).val; simp only []; omega)) (Fin.ext (by show _ = (j 1).val; simp only []; omega))) (Fin.ext (by simp only []; omega))

/-- What the kernel's run leaves in its result buffer. -/
theorem kernel_eq (m : (ℓ : Loc nD τ sig) → Buf (Elt Ideal) ℓ) (c : Dev nD) :
    V3 m c b3 = segmentMax (m ((SparseCore.T c).loc main_arg0)) := by
  have h3 : V3 m c b3 = _ := StableHlo.reshape_result ..
  have h1 : V1 m c b1 = _ := StableHlo.reshape_result ..
  rw [h3]
  refine Eq.trans ?_ (shapeCast_poolAll _)
  refine congrArg (fun w => shapeCast S128x512x64 w shapeCasts_S4194304_S128x512x64) ((V2_out m c).trans (congrArg poolAll h1))
end

end Cert.Proof.MaxPool

end
-- ==== Proof.lean ====
/-
  The claims about the segment-max kernel: its run and its real-number reading's (Launch), the reference's run (generated), and
  the one function of the data both leave as their result (Segment).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Segment

@[expose] public section

noncomputable section

namespace Cert.Proof

open Idealize.ShloMosaic Idealize.SL.Sem

theorem frame_kernel : Cert.quiescent_Kernel := fun m ρ _ =>
  (θ_run Cert.KernelIdeal.defs _ _).mono (fun _ h => ⟨fun c => (h.1 c).1, h.2⟩) (MaxPool.run_main (F := Bits) m ρ)

theorem frame_ideal : Cert.quiescent_KernelIdeal := fun m ρ _ =>
  (θ_run Cert.KernelIdeal.defs _ _).mono (fun _ h => ⟨fun c => (h.1 c).1, h.2⟩) (MaxPool.run_main (F := Ideal) m ρ)

/-- The reference is the host's alone: its argument stays, and it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both results are the segment maxima of the one data array. -/
theorem value : Cert.algebraic_KernelIdeal_ReferenceIdeal := fun m ρ m' ρ' _ hagree =>
  ⟨fun c => MaxPool.segmentMax (m ((SparseCore.T c).loc Cert.KernelIdeal.main_arg0)),
    (θ_run Cert.KernelIdeal.defs _ _).mono (fun _ h c => ⟨(h.1 c).2.trans (MaxPool.kernel_eq m c), (h.1 c).1⟩)
      (MaxPool.run_main (F := Ideal) m ρ),
    (θ_run Cert.ReferenceIdeal.defs _ _).mono
      (fun _ h c => ⟨((h c).1.trans (MaxPool.Ref.result_eq _)).trans (congrArg MaxPool.segmentMax (hagree c)), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference, trivial, value⟩

end Cert.Proof

end
